-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v249) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def holds_KernelIdeal_near_exact [hKernelIdeal : Cert.KernelIdeal.Facts] [hPost_near_exact : Cert.Post_near_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ (Cert.Post_near_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v1))) = (fun _ => 1#1))

def Claim : Prop :=
  ∃ (hKernel : Cert.Kernel.Facts) (hKernelIdeal : Cert.KernelIdeal.Facts) (hReferenceIdeal : Cert.ReferenceIdeal.Facts) (hPost_near_exact : Cert.Post_near_exact.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_near_exact (hKernelIdeal := hKernelIdeal) (hPost_near_exact := hPost_near_exact)
-- ==== Post_near_exact.lean ====
abbrev S8x8192x3 : Shape := ⟨3, ![8, 8192, 3]⟩
abbrev S8x1024x3 : Shape := ⟨3, ![8, 1024, 3]⟩
abbrev S8x1024x32 : Shape := ⟨3, ![8, 1024, 32]⟩
abbrev S8x32x1024x32 : Shape := ⟨4, ![8, 32, 1024, 32]⟩
abbrev S8x1024x1x3 : Shape := ⟨4, ![8, 1024, 1, 3]⟩
abbrev S8x1x8192x3 : Shape := ⟨4, ![8, 1, 8192, 3]⟩
abbrev S8x1024x8192x3 : Shape := ⟨4, ![8, 1024, 8192, 3]⟩
abbrev S_ : Shape := ⟨0, ![]⟩
abbrev S8x1024x8192 : Shape := ⟨3, ![8, 1024, 8192]⟩
abbrev S8192 : Shape := ⟨1, ![8192]⟩
abbrev S1x1x8192 : Shape := ⟨3, ![1, 1, 8192]⟩
abbrev S8x1024x33 : Shape := ⟨3, ![8, 1024, 33]⟩
abbrev S8x1024 : Shape := ⟨2, ![8, 1024]⟩
abbrev S8x1024x1 : Shape := ⟨3, ![8, 1024, 1]⟩
abbrev S33 : Shape := ⟨1, ![33]⟩
abbrev S1x1x33 : Shape := ⟨3, ![1, 1, 33]⟩
abbrev S8x3x8192 : Shape := ⟨3, ![8, 3, 8192]⟩
abbrev S8x1024x33x1 : Shape := ⟨4, ![8, 1024, 33, 1]⟩
abbrev S8x3x1024x33 : Shape := ⟨4, ![8, 3, 1024, 33]⟩
abbrev S8x3x1024x32 : Shape := ⟨4, ![8, 3, 1024, 32]⟩
abbrev S8x3x1024 : Shape := ⟨3, ![8, 3, 1024]⟩
abbrev S8x3x1024x1 : Shape := ⟨4, ![8, 3, 1024, 1]⟩
abbrev S8x1x1024x1 : Shape := ⟨4, ![8, 1, 1024, 1]⟩
abbrev S8x1x1024x32 : Shape := ⟨4, ![8, 1, 1024, 32]⟩
abbrev S8x3x1024x32x1 : Shape := ⟨5, ![8, 3, 1024, 32, 1]⟩
abbrev S1 : Shape := ⟨1, ![1]⟩
abbrev S1x1x1x1x1 : Shape := ⟨5, ![1, 1, 1, 1, 1]⟩
abbrev S8x4x1024x32 : Shape := ⟨4, ![8, 4, 1024, 32]⟩
abbrev S8x4x1x1024x32 : Shape := ⟨5, ![8, 4, 1, 1024, 32]⟩
abbrev S8x4x1x1024x31 : Shape := ⟨5, ![8, 4, 1, 1024, 31]⟩
abbrev S8x4x1x1024x1 : Shape := ⟨5, ![8, 4, 1, 1024, 1]⟩
abbrev S8x4x8x1024x32 : Shape := ⟨5, ![8, 4, 8, 1024, 32]⟩

class Facts : Prop where
  bcast_S8x1024x3_S8x1024x1x3_0_1_3 : S8x1024x3.BroadcastsInDim S8x1024x1x3 (![0, 1, 3] : Fin 3 → Fin S8x1024x1x3.rank)
  bcast_S8x8192x3_S8x1x8192x3_0_2_3 : S8x8192x3.BroadcastsInDim S8x1x8192x3 (![0, 2, 3] : Fin 3 → Fin S8x1x8192x3.rank)
  bcast_S8x1024x1x3_S8x1024x8192x3_0_1_2_3 : S8x1024x1x3.BroadcastsInDim S8x1024x8192x3 (![0, 1, 2, 3] : Fin 4 → Fin S8x1024x8192x3.rank)
  bcast_S8x1x8192x3_S8x1024x8192x3_0_1_2_3 : S8x1x8192x3.BroadcastsInDim S8x1024x8192x3 (![0, 1, 2, 3] : Fin 4 → Fin S8x1024x8192x3.rank)
  reducesTo_S8x1024x8192x3_S8x1024x8192_d3 : S8x1024x8192x3.ReducesTo [3] S8x1024x8192
  h_S_ : 0 < S_.numel
  bcast_S_S8x1024x8192 : S_.BroadcastsInDim S8x1024x8192 (![] : Fin 0 → Fin S8x1024x8192.rank)
  bcast_S8192_S1x1x8192_2 : S8192.BroadcastsInDim S1x1x8192 (![2] : Fin 1 → Fin S1x1x8192.rank)
  bcast_S1x1x8192_S8x1024x8192_0_1_2 : S1x1x8192.BroadcastsInDim S8x1024x8192 (![0, 1, 2] : Fin 3 → Fin S8x1024x8192.rank)
  sliceFits_S8x1024x8192_S8x1024x33 : S8x1024x8192.Slices (fun _ => 0) S8x1024x33
  natLt_1_32 : 1 < 32
  reducesTo_S8x1024x8192_S8x1024_d2 : S8x1024x8192.ReducesTo [2] S8x1024
  bcast_S8x1024_S8x1024x1_0_1 : S8x1024.BroadcastsInDim S8x1024x1 (![0, 1] : Fin 2 → Fin S8x1024x1.rank)
  bcast_S33_S1x1x33_2 : S33.BroadcastsInDim S1x1x33 (![2] : Fin 1 → Fin S1x1x33.rank)
  bcast_S1x1x33_S8x1024x33_0_1_2 : S1x1x33.BroadcastsInDim S8x1024x33 (![0, 1, 2] : Fin 3 → Fin S8x1024x33.rank)
  bcast_S8x1024x1_S8x1024x33_0_1_2 : S8x1024x1.BroadcastsInDim S8x1024x33 (![0, 1, 2] : Fin 3 → Fin S8x1024x33.rank)
  slices_S8x1024x33_S8x1024x1_0_0_0 : S8x1024x33.Slices ![0, 0, 0] S8x1024x1
  transposes_S8x8192x3_S8x3x8192_0_2_1 : S8x8192x3.Transposes [0, 2, 1] S8x3x8192
  bcast_S_S8x1024x33 : S_.BroadcastsInDim S8x1024x33 (![] : Fin 0 → Fin S8x1024x33.rank)
  bcast_S8x1024x33_S8x1024x33x1_0_1_2 : S8x1024x33.BroadcastsInDim S8x1024x33x1 (![0, 1, 2] : Fin 3 → Fin S8x1024x33x1.rank)
  slices_S8x3x1024x33_S8x3x1024x32_0_0_0_1 : S8x3x1024x33.Slices ![0, 0, 0, 1] S8x3x1024x32
  transposes_S8x1024x3_S8x3x1024_0_2_1 : S8x1024x3.Transposes [0, 2, 1] S8x3x1024
  bcast_S8x3x1024_S8x3x1024x1_0_1_2 : S8x3x1024.BroadcastsInDim S8x3x1024x1 (![0, 1, 2] : Fin 3 → Fin S8x3x1024x1.rank)
  bcast_S8x3x1024x1_S8x3x1024x32_0_1_2_3 : S8x3x1024x1.BroadcastsInDim S8x3x1024x32 (![0, 1, 2, 3] : Fin 4 → Fin S8x3x1024x32.rank)
  reducesTo_S8x3x1024x1_S8x1024x1_d1 : S8x3x1024x1.ReducesTo [1] S8x1024x1
  bcast_S8x1024x1_S8x1x1024x1_0_2_3 : S8x1024x1.BroadcastsInDim S8x1x1024x1 (![0, 2, 3] : Fin 3 → Fin S8x1x1024x1.rank)
  bcast_S_S8x1x1024x1 : S_.BroadcastsInDim S8x1x1024x1 (![] : Fin 0 → Fin S8x1x1024x1.rank)
  bcast_S8x1x1024x1_S8x3x1024x1_0_1_2_3 : S8x1x1024x1.BroadcastsInDim S8x3x1024x1 (![0, 1, 2, 3] : Fin 4 → Fin S8x3x1024x1.rank)
  slices_S8x3x1024x1_S8x1x1024x1_0_0_0_0 : S8x3x1024x1.Slices ![0, 0, 0, 0] S8x1x1024x1
  shapeCasts_S8x1x1024x1_S8x1024x1 : S8x1x1024x1.ShapeCasts S8x1024x1
  slices_S8x3x1024x1_S8x1x1024x1_0_1_0_0 : S8x3x1024x1.Slices ![0, 1, 0, 0] S8x1x1024x1
  slices_S8x3x1024x1_S8x1x1024x1_0_2_0_0 : S8x3x1024x1.Slices ![0, 2, 0, 0] S8x1x1024x1
  bcast_S_S8x1024x1 : S_.BroadcastsInDim S8x1024x1 (![] : Fin 0 → Fin S8x1024x1.rank)
  concatenates_S8x1x1024x1_S8x1x1024x1_S8x1x1024x1_S8x3x1024x1_d1 : Shape.Concatenates [S8x1x1024x1, S8x1x1024x1, S8x1x1024x1] S8x3x1024x1 1
  reducesTo_S8x3x1024x32_S8x1024x32_d1 : S8x3x1024x32.ReducesTo [1] S8x1024x32
  bcast_S8x1024x32_S8x1x1024x32_0_2_3 : S8x1024x32.BroadcastsInDim S8x1x1024x32 (![0, 2, 3] : Fin 3 → Fin S8x1x1024x32.rank)
  bcast_S8x1x1024x32_S8x3x1024x32_0_1_2_3 : S8x1x1024x32.BroadcastsInDim S8x3x1024x32 (![0, 1, 2, 3] : Fin 4 → Fin S8x3x1024x32.rank)
  bcast_S_S8x1x1024x32 : S_.BroadcastsInDim S8x1x1024x32 (![] : Fin 0 → Fin S8x1x1024x32.rank)
  slices_S8x3x1024x32_S8x1x1024x32_0_0_0_0 : S8x3x1024x32.Slices ![0, 0, 0, 0] S8x1x1024x32
  shapeCasts_S8x1x1024x32_S8x1024x32 : S8x1x1024x32.ShapeCasts S8x1024x32
  slices_S8x3x1024x32_S8x1x1024x32_0_1_0_0 : S8x3x1024x32.Slices ![0, 1, 0, 0] S8x1x1024x32
  slices_S8x3x1024x32_S8x1x1024x32_0_2_0_0 : S8x3x1024x32.Slices ![0, 2, 0, 0] S8x1x1024x32
  concatenates_S8x1x1024x32_S8x1x1024x32_S8x1x1024x32_S8x3x1024x32_d1 : Shape.Concatenates [S8x1x1024x32, S8x1x1024x32, S8x1x1024x32] S8x3x1024x32 1
  bcast_S_S8x3x1024x32 : S_.BroadcastsInDim S8x3x1024x32 (![] : Fin 0 → Fin S8x3x1024x32.rank)
  shapeCasts_S8x3x1024x32_S8x3x1024x32x1 : S8x3x1024x32.ShapeCasts S8x3x1024x32x1
  bcast_S_S8x3x1024x32x1 : S_.BroadcastsInDim S8x3x1024x32x1 (![] : Fin 0 → Fin S8x3x1024x32x1.rank)
  bcast_S1_S1x1x1x1x1_4 : S1.BroadcastsInDim S1x1x1x1x1 (![4] : Fin 1 → Fin S1x1x1x1x1.rank)
  bcast_S1x1x1x1x1_S8x3x1024x32x1_0_1_2_3_4 : S1x1x1x1x1.BroadcastsInDim S8x3x1024x32x1 (![0, 1, 2, 3, 4] : Fin 5 → Fin S8x3x1024x32x1.rank)
  reducesTo_S8x3x1024x32x1_S8x3x1024x32_d4 : S8x3x1024x32x1.ReducesTo [4] S8x3x1024x32
  concatenates_S8x1x1024x32_S8x3x1024x32_S8x4x1024x32_d1 : Shape.Concatenates [S8x1x1024x32, S8x3x1024x32] S8x4x1024x32 1
  bcast_S8x4x1024x32_S8x4x1x1024x32_0_1_3_4 : S8x4x1024x32.BroadcastsInDim S8x4x1x1024x32 (![0, 1, 3, 4] : Fin 4 → Fin S8x4x1x1024x32.rank)
  slices_S8x4x1x1024x32_S8x4x1x1024x31_0_0_0_0_1 : S8x4x1x1024x32.Slices ![0, 0, 0, 0, 1] S8x4x1x1024x31
  slices_S8x4x1x1024x32_S8x4x1x1024x1_0_0_0_0_0 : S8x4x1x1024x32.Slices ![0, 0, 0, 0, 0] S8x4x1x1024x1
  concatenates_S8x4x1x1024x31_S8x4x1x1024x1_S8x4x1x1024x32_d4 : Shape.Concatenates [S8x4x1x1024x31, S8x4x1x1024x1] S8x4x1x1024x32 4
  concatenates_S8x4x1x1024x32_S8x4x1x1024x32_S8x4x1x1024x32_S8x4x1x1024x32_S8x4x1x1024x32_S8x4x1x1024x32_S8x4x1x1024x32_S8x4x1x1024x32_S8x4x8x1024x32_d2 : Shape.Concatenates [S8x4x1x1024x32, S8x4x1x1024x32, S8x4x1x1024x32, S8x4x1x1024x32, S8x4x1x1024x32, S8x4x1x1024x32, S8x4x1x1024x32, S8x4x1x1024x32] S8x4x8x1024x32 2
  shapeCasts_S8x4x8x1024x32_S8x32x1024x32 : S8x4x8x1024x32.ShapeCasts S8x32x1024x32
  bcast_S_S8x32x1024x32 : S_.BroadcastsInDim S8x32x1024x32 (![] : Fin 0 → Fin S8x32x1024x32.rank)
  gather_S8x3x8192_S8x1024x33x1_S8x3x1024x33_1_2_0_0_2_3_131_wf : GatherDims.WF S8x3x8192 S8x1024x33x1 S8x3x1024x33 [1] [2] [0] [2] [0] 3 ![1, 3, 1]
  gather_S8x3x1024x32_S8x3x1024x32x1_S8x3x1024x32_n_3_012_012_3_4_1111_wf : GatherDims.WF S8x3x1024x32 S8x3x1024x32x1 S8x3x1024x32 [] [3] [0, 1, 2] [3] [0, 1, 2] 4 ![1, 1, 1, 1]

variable [Facts]

variable {F : FTy → Type} [FloatOps F]
def gather_S8x3x8192_S8x1024x33x1_S8x3x1024x33_1_2_0_0_2_3_131 : GatherDims S8x3x8192 S8x1024x33x1 S8x3x1024x33 where
  offsetDims := [1]
  collapsedSliceDims := [2]
  operandBatchingDims := [0]
  startIndicesBatchingDims := [0]
  startIndexMap := [2]
  indexVectorDim := 3
  sliceSizes := ![1, 3, 1]
  wf := gather_S8x3x8192_S8x1024x33x1_S8x3x1024x33_1_2_0_0_2_3_131_wf
def comparator_f32_i32_d3 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S8x3x1024x32_S8x3x1024x32x1_S8x3x1024x32_n_3_012_012_3_4_1111 : GatherDims S8x3x1024x32 S8x3x1024x32x1 S8x3x1024x32 where
  offsetDims := []
  collapsedSliceDims := [3]
  operandBatchingDims := [0, 1, 2]
  startIndicesBatchingDims := [0, 1, 2]
  startIndexMap := [3]
  indexVectorDim := 4
  sliceSizes := ![1, 1, 1, 1]
  wf := gather_S8x3x1024x32_S8x3x1024x32x1_S8x3x1024x32_n_3_012_012_3_4_1111_wf

def fn_where {F : FTy → Type} [FloatOps F] (arg0 : IVec S8x1024x8192 1) (arg1 : IVec S1x1x8192 32) (arg2 : IVec S_ 32) : IVec S8x1024x8192 32 :=
  let v0 : IVec S_ 32 := id arg2
  let v1 : IVec S8x1024x8192 32 := broadcastInDim S8x1024x8192 ![0, 1, 2] bcast_S1x1x8192_S8x1024x8192_0_1_2 arg1
  let v2 : IVec S8x1024x8192 32 := broadcastInDim S8x1024x8192 ![] bcast_S_S8x1024x8192 v0
  let v3 : IVec S8x1024x8192 32 := select arg0 v1 v2
  v3

def fn_where_0 {F : FTy → Type} [FloatOps F] (arg0 : IVec S8x1024x33 1) (arg1 : IVec S8x1024x33 32) (arg2 : IVec S8x1024x1 32) : IVec S8x1024x33 32 :=
  let v0 : IVec S8x1024x33 32 := broadcastInDim S8x1024x33 ![0, 1, 2] bcast_S8x1024x1_S8x1024x33_0_1_2 arg2
  let v1 : IVec S8x1024x33 32 := select arg0 arg1 v0
  v1

def fn_where_1 {F : FTy → Type} [FloatOps F] (arg0 : IVec S8x1024x1 1) (arg1 : FVec F S8x1024x1 .f32) (arg2 : FVec F S8x1024x1 .f32) : FVec F S8x1024x1 .f32 :=
  let v0 : FVec F S8x1024x1 .f32 := select arg0 arg1 arg2
  v0

def fn_where_2 {F : FTy → Type} [FloatOps F] (arg0 : IVec S8x1x1024x32 1) (arg1 : FVec F S8x1x1024x32 .f32) (arg2 : FVec F S8x1x1024x32 .f32) : FVec F S8x1x1024x32 .f32 :=
  let v0 : FVec F S8x1x1024x32 .f32 := select arg0 arg1 arg2
  v0

def fn_argsort {F : FTy → Type} [FloatOps F] (arg0 : FVec F S8x1x1024x32 .f32) : IVec S8x1x1024x32 32 :=
  let v0 : IVec S8x1x1024x32 32 := iotaInDim S8x1x1024x32 32 3
  let v1_0 : FVec F S8x1x1024x32 .f32 := (fun x y => (Host.sort2 S8x1x1024x32 3 comparator_f32_i32_d3 x y).1) arg0 v0
  let v1_1 : IVec S8x1x1024x32 32 := (fun x y => (Host.sort2 S8x1x1024x32 3 comparator_f32_i32_d3 x y).2) arg0 v0
  v1_1

def fn_take_along_axis {F : FTy → Type} [FloatOps F] (arg0 : FVec F S8x3x1024x32 .f32) (arg1 : IVec S8x3x1024x32 32) : FVec F S8x3x1024x32 .f32 :=
  let c : IVec S_ 32 := constantI S_ 32 0#32
  let v0 : IVec S8x3x1024x32 32 := broadcastInDim S8x3x1024x32 ![] bcast_S_S8x3x1024x32 c
  let v1 : IVec S8x3x1024x32 1 := cmpi .slt arg1 v0
  let c_0 : IVec S_ 32 := constantI S_ 32 32#32
  let v2 : IVec S8x3x1024x32 32 := broadcastInDim S8x3x1024x32 ![] bcast_S_S8x3x1024x32 c_0
  let v3 : IVec S8x3x1024x32 32 := addi arg1 v2
  let v4 : IVec S8x3x1024x32 32 := select v1 v3 arg1
  let v5 : IVec S8x3x1024x32x1 32 := shapeCast S8x3x1024x32x1 v4 shapeCasts_S8x3x1024x32_S8x3x1024x32x1
  let c_1 : IVec S1 32 := constantI S1 32 31#32
  let c_2 : IVec S_ 32 := constantI S_ 32 0#32
  let v6 : IVec S8x3x1024x32x1 32 := broadcastInDim S8x3x1024x32x1 ![] bcast_S_S8x3x1024x32x1 c_2
  let v7 : IVec S8x3x1024x32x1 1 := cmpi .sge v5 v6
  let v8 : IVec S1x1x1x1x1 32 := broadcastInDim S1x1x1x1x1 ![4] bcast_S1_S1x1x1x1x1_4 c_1
  let v9 : IVec S8x3x1024x32x1 32 := broadcastInDim S8x3x1024x32x1 ![0, 1, 2, 3, 4] bcast_S1x1x1x1x1_S8x3x1024x32x1_0_1_2_3_4 v8
  let v10 : IVec S8x3x1024x32x1 1 := cmpi .sle v5 v9
  let v11 : IVec S8x3x1024x32x1 1 := andi v7 v10
  let c_3 : IVec S_ 1 := constantI S_ 1 1#1
  let v12 : IVec S8x3x1024x32 1 := (fun x v => Host.reduce IntOp.andi x v reducesTo_S8x3x1024x32x1_S8x3x1024x32_d4 h_S_) v11 c_3
  let v13 : FVec F S8x3x1024x32 .f32 := (fun x i => Host.gather gather_S8x3x1024x32_S8x3x1024x32x1_S8x3x1024x32_n_3_012_012_3_4_1111 x i) arg0 v5
  let cst : FVec F S_ .f32 := constant S_ .f32 0x7FC00000#32
  let v14 : FVec F S8x3x1024x32 .f32 := broadcastInDim S8x3x1024x32 ![] bcast_S_S8x3x1024x32 cst
  let v15 : FVec F S8x3x1024x32 .f32 := select v12 v13 v14
  v15

def fn_part9 {F : FTy → Type} [FloatOps F] (main_arg3 : FVec F S8x32x1024x32 .f32) (main_v177 : FVec F S8x4x1x1024x32 .f32) (main_v180 : FVec F S8x4x1x1024x32 .f32) (main_v183 : FVec F S8x4x1x1024x32 .f32) (main_v184 : FVec F S8x4x1x1024x31 .f32) : IVec S8x32x1024x32 1 :=
  let main_v185 : FVec F S8x4x1x1024x1 .f32 := (extractStridedSlice S8x4x1x1024x1 ![0, 0, 0, 0, 0] · slices_S8x4x1x1024x32_S8x4x1x1024x1_0_0_0_0_0) main_v183
  let main_v186 : FVec F S8x4x1x1024x32 .f32 := (fun a b => concatenate S8x4x1x1024x32 4 [⟨S8x4x1x1024x31, a⟩, ⟨S8x4x1x1024x1, b⟩] concatenates_S8x4x1x1024x31_S8x4x1x1024x1_S8x4x1x1024x32_d4) main_v184 main_v185
  let main_v187 : FVec F S8x4x1x1024x31 .f32 := (extractStridedSlice S8x4x1x1024x31 ![0, 0, 0, 0, 1] · slices_S8x4x1x1024x32_S8x4x1x1024x31_0_0_0_0_1) main_v186
  let main_v188 : FVec F S8x4x1x1024x1 .f32 := (extractStridedSlice S8x4x1x1024x1 ![0, 0, 0, 0, 0] · slices_S8x4x1x1024x32_S8x4x1x1024x1_0_0_0_0_0) main_v186
  let main_v189 : FVec F S8x4x1x1024x32 .f32 := (fun a b => concatenate S8x4x1x1024x32 4 [⟨S8x4x1x1024x31, a⟩, ⟨S8x4x1x1024x1, b⟩] concatenates_S8x4x1x1024x31_S8x4x1x1024x1_S8x4x1x1024x32_d4) main_v187 main_v188
  let main_v190 : FVec F S8x4x1x1024x31 .f32 := (extractStridedSlice S8x4x1x1024x31 ![0, 0, 0, 0, 1] · slices_S8x4x1x1024x32_S8x4x1x1024x31_0_0_0_0_1) main_v189
  let main_v191 : FVec F S8x4x1x1024x1 .f32 := (extractStridedSlice S8x4x1x1024x1 ![0, 0, 0, 0, 0] · slices_S8x4x1x1024x32_S8x4x1x1024x1_0_0_0_0_0) main_v189
  let main_v192 : FVec F S8x4x1x1024x32 .f32 := (fun a b => concatenate S8x4x1x1024x32 4 [⟨S8x4x1x1024x31, a⟩, ⟨S8x4x1x1024x1, b⟩] concatenates_S8x4x1x1024x31_S8x4x1x1024x1_S8x4x1x1024x32_d4) main_v190 main_v191
  let main_v193 : FVec F S8x4x1x1024x31 .f32 := (extractStridedSlice S8x4x1x1024x31 ![0, 0, 0, 0, 1] · slices_S8x4x1x1024x32_S8x4x1x1024x31_0_0_0_0_1) main_v192
  let main_v194 : FVec F S8x4x1x1024x1 .f32 := (extractStridedSlice S8x4x1x1024x1 ![0, 0, 0, 0, 0] · slices_S8x4x1x1024x32_S8x4x1x1024x1_0_0_0_0_0) main_v192
  let main_v195 : FVec F S8x4x1x1024x32 .f32 := (fun a b => concatenate S8x4x1x1024x32 4 [⟨S8x4x1x1024x31, a⟩, ⟨S8x4x1x1024x1, b⟩] concatenates_S8x4x1x1024x31_S8x4x1x1024x1_S8x4x1x1024x32_d4) main_v193 main_v194
  let main_v196 : FVec F S8x4x1x1024x31 .f32 := (extractStridedSlice S8x4x1x1024x31 ![0, 0, 0, 0, 1] · slices_S8x4x1x1024x32_S8x4x1x1024x31_0_0_0_0_1) main_v195
  let main_v197 : FVec F S8x4x1x1024x1 .f32 := (extractStridedSlice S8x4x1x1024x1 ![0, 0, 0, 0, 0] · slices_S8x4x1x1024x32_S8x4x1x1024x1_0_0_0_0_0) main_v195
  let main_v198 : FVec F S8x4x1x1024x32 .f32 := (fun a b => concatenate S8x4x1x1024x32 4 [⟨S8x4x1x1024x31, a⟩, ⟨S8x4x1x1024x1, b⟩] concatenates_S8x4x1x1024x31_S8x4x1x1024x1_S8x4x1x1024x32_d4) main_v196 main_v197
  let main_v199 : FVec F S8x4x8x1024x32 .f32 := concatenate S8x4x8x1024x32 2 [⟨S8x4x1x1024x32, main_v177⟩, ⟨S8x4x1x1024x32, main_v180⟩, ⟨S8x4x1x1024x32, main_v183⟩, ⟨S8x4x1x1024x32, main_v186⟩, ⟨S8x4x1x1024x32, main_v189⟩, ⟨S8x4x1x1024x32, main_v192⟩, ⟨S8x4x1x1024x32, main_v195⟩, ⟨S8x4x1x1024x32, main_v198⟩] concatenates_S8x4x1x1024x32_S8x4x1x1024x32_S8x4x1x1024x32_S8x4x1x1024x32_S8x4x1x1024x32_S8x4x1x1024x32_S8x4x1x1024x32_S8x4x1x1024x32_S8x4x8x1024x32_d2
  let main_v200 : FVec F S8x32x1024x32 .f32 := shapeCast S8x32x1024x32 main_v199 shapeCasts_S8x4x8x1024x32_S8x32x1024x32
  let main_v201 : IVec S8x32x1024x32 1 := cmpf .oeq main_arg3 main_v200
  let main_v202 : FVec F S8x32x1024x32 .f32 := subf main_arg3 main_v200
  let main_v203 : FVec F S8x32x1024x32 .f32 := Host.absf main_v202
  let main_cst_27 : FVec F S_ .f32 := constant S_ .f32 0x358637BD#32
  let main_v204 : FVec F S8x32x1024x32 .f32 := broadcastInDim S8x32x1024x32 ![] bcast_S_S8x32x1024x32 main_cst_27
  let main_v205 : IVec S8x32x1024x32 1 := cmpf .ole main_v203 main_v204
  let main_v206 : IVec S8x32x1024x32 1 := ori main_v201 main_v205
  main_v206

def fn_part8 {F : FTy → Type} [FloatOps F] (main_arg3 : FVec F S8x32x1024x32 .f32) (main_v157 : FVec F S8x3x1024x32 .f32) (main_v161 : FVec F S8x1x1024x32 .f32) (main_v163 : FVec F S8x1x1024x32 .f32) : IVec S8x32x1024x32 1 :=
  let main_v164 : FVec F S8x3x1024x32 .f32 := broadcastInDim S8x3x1024x32 ![0, 1, 2, 3] bcast_S8x1x1024x32_S8x3x1024x32_0_1_2_3 main_v163
  let main_v165 : FVec F S8x3x1024x32 .f32 := Host.divf main_v157 main_v164
  let main_cst_24 : FVec F S_ .f32 := constant S_ .f32 0x3E4CCCCD#32
  let main_v166 : FVec F S8x1x1024x32 .f32 := broadcastInDim S8x1x1024x32 ![] bcast_S_S8x1x1024x32 main_cst_24
  let main_v167 : FVec F S8x1x1024x32 .f32 := Host.divf main_v161 main_v166
  let main_cst_25 : FVec F S_ .f32 := constant S_ .f32 0x40490FDB#32
  let main_v168 : FVec F S8x1x1024x32 .f32 := broadcastInDim S8x1x1024x32 ![] bcast_S_S8x1x1024x32 main_cst_25
  let main_v169 : FVec F S8x1x1024x32 .f32 := mulf main_v167 main_v168
  let main_cst_26 : FVec F S_ .f32 := constant S_ .f32 0x40000000#32
  let main_v170 : FVec F S8x1x1024x32 .f32 := broadcastInDim S8x1x1024x32 ![] bcast_S_S8x1x1024x32 main_cst_26
  let main_v171 : FVec F S8x1x1024x32 .f32 := Host.divf main_v169 main_v170
  let main_v172 : FVec F S8x1x1024x32 .f32 := Host.cos main_v171
  let main_v173 : FVec F S8x1x1024x32 .f32 := Host.sin main_v171
  let main_v174 : FVec F S8x3x1024x32 .f32 := broadcastInDim S8x3x1024x32 ![0, 1, 2, 3] bcast_S8x1x1024x32_S8x3x1024x32_0_1_2_3 main_v173
  let main_v175 : FVec F S8x3x1024x32 .f32 := mulf main_v174 main_v165
  let main_v176 : FVec F S8x4x1024x32 .f32 := (fun a b => concatenate S8x4x1024x32 1 [⟨S8x1x1024x32, a⟩, ⟨S8x3x1024x32, b⟩] concatenates_S8x1x1024x32_S8x3x1024x32_S8x4x1024x32_d1) main_v172 main_v175
  let main_v177 : FVec F S8x4x1x1024x32 .f32 := broadcastInDim S8x4x1x1024x32 ![0, 1, 3, 4] bcast_S8x4x1024x32_S8x4x1x1024x32_0_1_3_4 main_v176
  let main_v178 : FVec F S8x4x1x1024x31 .f32 := (extractStridedSlice S8x4x1x1024x31 ![0, 0, 0, 0, 1] · slices_S8x4x1x1024x32_S8x4x1x1024x31_0_0_0_0_1) main_v177
  let main_v179 : FVec F S8x4x1x1024x1 .f32 := (extractStridedSlice S8x4x1x1024x1 ![0, 0, 0, 0, 0] · slices_S8x4x1x1024x32_S8x4x1x1024x1_0_0_0_0_0) main_v177
  let main_v180 : FVec F S8x4x1x1024x32 .f32 := (fun a b => concatenate S8x4x1x1024x32 4 [⟨S8x4x1x1024x31, a⟩, ⟨S8x4x1x1024x1, b⟩] concatenates_S8x4x1x1024x31_S8x4x1x1024x1_S8x4x1x1024x32_d4) main_v178 main_v179
  let main_v181 : FVec F S8x4x1x1024x31 .f32 := (extractStridedSlice S8x4x1x1024x31 ![0, 0, 0, 0, 1] · slices_S8x4x1x1024x32_S8x4x1x1024x31_0_0_0_0_1) main_v180
  let main_v182 : FVec F S8x4x1x1024x1 .f32 := (extractStridedSlice S8x4x1x1024x1 ![0, 0, 0, 0, 0] · slices_S8x4x1x1024x32_S8x4x1x1024x1_0_0_0_0_0) main_v180
  let main_v183 : FVec F S8x4x1x1024x32 .f32 := (fun a b => concatenate S8x4x1x1024x32 4 [⟨S8x4x1x1024x31, a⟩, ⟨S8x4x1x1024x1, b⟩] concatenates_S8x4x1x1024x31_S8x4x1x1024x1_S8x4x1x1024x32_d4) main_v181 main_v182
  let main_v184 : FVec F S8x4x1x1024x31 .f32 := (extractStridedSlice S8x4x1x1024x31 ![0, 0, 0, 0, 1] · slices_S8x4x1x1024x32_S8x4x1x1024x31_0_0_0_0_1) main_v183
  fn_part9 (F := F) main_arg3 main_v177 main_v180 main_v183 main_v184

def fn_part7 {F : FTy → Type} [FloatOps F] (main_arg2 : FVec F S8x1024x32 .f32) (main_arg3 : FVec F S8x32x1024x32 .f32) (main_v35 : FVec F S8x3x1024x32 .f32) (main_v114 : FVec F S8x3x1024x32 .f32) (main_v143 : FVec F S8x1x1024x32 .f32) (main_v144 : FVec F S8x3x1024x32 .f32) : IVec S8x32x1024x32 1 :=
  let main_cst_19 : FVec F S_ .f32 := constant S_ .f32 0x00000000#32
  let main_v145 : FVec F S8x1024x32 .f32 := (fun x v => Host.reduceAdd x v reducesTo_S8x3x1024x32_S8x1024x32_d1 h_S_) main_v144 main_cst_19
  let main_v146 : FVec F S8x1x1024x32 .f32 := broadcastInDim S8x1x1024x32 ![0, 2, 3] bcast_S8x1024x32_S8x1x1024x32_0_2_3 main_v145
  let main_v147 : FVec F S8x1x1024x32 .f32 := Host.atan2 main_v143 main_v146
  let main_v148 : FVec F S8x3x1024x32 .f32 := mulf main_v114 main_v114
  let main_cst_20 : FVec F S_ .f32 := constant S_ .f32 0x00000000#32
  let main_v149 : FVec F S8x1024x32 .f32 := (fun x v => Host.reduceAdd x v reducesTo_S8x3x1024x32_S8x1024x32_d1 h_S_) main_v148 main_cst_20
  let main_v150 : FVec F S8x1x1024x32 .f32 := broadcastInDim S8x1x1024x32 ![0, 2, 3] bcast_S8x1024x32_S8x1x1024x32_0_2_3 main_v149
  let main_cst_21 : FVec F S_ .f32 := constant S_ .f32 0x2B8CBCCC#32
  let main_v151 : FVec F S8x1x1024x32 .f32 := broadcastInDim S8x1x1024x32 ![] bcast_S_S8x1x1024x32 main_cst_21
  let main_v152 : IVec S8x1x1024x32 1 := cmpf .olt main_v150 main_v151
  let main_v153 : FVec F S8x1x1024x32 .f32 := broadcastInDim S8x1x1024x32 ![0, 2, 3] bcast_S8x1024x32_S8x1x1024x32_0_2_3 main_arg2
  let main_v154 : FVec F S8x1x1024x32 .f32 := fn_where_2 (F := F) main_v152 main_v153 main_v147
  let main_v155 : IVec S8x1x1024x32 32 := fn_argsort (F := F) main_v154
  let main_v156 : IVec S8x3x1024x32 32 := broadcastInDim S8x3x1024x32 ![0, 1, 2, 3] bcast_S8x1x1024x32_S8x3x1024x32_0_1_2_3 main_v155
  let main_v157 : FVec F S8x3x1024x32 .f32 := fn_take_along_axis (F := F) main_v35 main_v156
  let main_v158 : FVec F S8x3x1024x32 .f32 := mulf main_v157 main_v157
  let main_cst_22 : FVec F S_ .f32 := constant S_ .f32 0x00000000#32
  let main_v159 : FVec F S8x1024x32 .f32 := (fun x v => Host.reduceAdd x v reducesTo_S8x3x1024x32_S8x1024x32_d1 h_S_) main_v158 main_cst_22
  let main_v160 : FVec F S8x1x1024x32 .f32 := broadcastInDim S8x1x1024x32 ![0, 2, 3] bcast_S8x1024x32_S8x1x1024x32_0_2_3 main_v159
  let main_v161 : FVec F S8x1x1024x32 .f32 := Host.sqrt main_v160
  let main_cst_23 : FVec F S_ .f32 := constant S_ .f32 0x358637BD#32
  let main_v162 : FVec F S8x1x1024x32 .f32 := broadcastInDim S8x1x1024x32 ![] bcast_S_S8x1x1024x32 main_cst_23
  let main_v163 : FVec F S8x1x1024x32 .f32 := addf main_v161 main_v162
  fn_part8 (F := F) main_arg3 main_v157 main_v161 main_v163

def fn_part6 {F : FTy → Type} [FloatOps F] (main_arg2 : FVec F S8x1024x32 .f32) (main_arg3 : FVec F S8x32x1024x32 .f32) (main_v35 : FVec F S8x3x1024x32 .f32) (main_v43 : FVec F S8x3x1024x1 .f32) (main_v90 : FVec F S8x3x1024x32 .f32) (main_v114 : FVec F S8x3x1024x32 .f32) (main_v116 : FVec F S8x1024x32 .f32) (main_v118 : FVec F S8x1024x32 .f32) (main_v120 : FVec F S8x1024x32 .f32) (main_v121 : FVec F S8x1x1024x32 .f32) : IVec S8x32x1024x32 1 :=
  let main_v122 : FVec F S8x1024x32 .f32 := shapeCast S8x1024x32 main_v121 shapeCasts_S8x1x1024x32_S8x1024x32
  let main_v123 : FVec F S8x1x1024x32 .f32 := (extractStridedSlice S8x1x1024x32 ![0, 1, 0, 0] · slices_S8x3x1024x32_S8x1x1024x32_0_1_0_0) main_v114
  let main_v124 : FVec F S8x1024x32 .f32 := shapeCast S8x1024x32 main_v123 shapeCasts_S8x1x1024x32_S8x1024x32
  let main_v125 : FVec F S8x1x1024x32 .f32 := (extractStridedSlice S8x1x1024x32 ![0, 2, 0, 0] · slices_S8x3x1024x32_S8x1x1024x32_0_2_0_0) main_v114
  let main_v126 : FVec F S8x1024x32 .f32 := shapeCast S8x1024x32 main_v125 shapeCasts_S8x1x1024x32_S8x1024x32
  let main_v127 : FVec F S8x1024x32 .f32 := mulf main_v118 main_v126
  let main_v128 : FVec F S8x1024x32 .f32 := mulf main_v120 main_v124
  let main_v129 : FVec F S8x1024x32 .f32 := subf main_v127 main_v128
  let main_v130 : FVec F S8x1024x32 .f32 := mulf main_v120 main_v122
  let main_v131 : FVec F S8x1024x32 .f32 := mulf main_v116 main_v126
  let main_v132 : FVec F S8x1024x32 .f32 := subf main_v130 main_v131
  let main_v133 : FVec F S8x1024x32 .f32 := mulf main_v116 main_v124
  let main_v134 : FVec F S8x1024x32 .f32 := mulf main_v118 main_v122
  let main_v135 : FVec F S8x1024x32 .f32 := subf main_v133 main_v134
  let main_v136 : FVec F S8x1x1024x32 .f32 := broadcastInDim S8x1x1024x32 ![0, 2, 3] bcast_S8x1024x32_S8x1x1024x32_0_2_3 main_v129
  let main_v137 : FVec F S8x1x1024x32 .f32 := broadcastInDim S8x1x1024x32 ![0, 2, 3] bcast_S8x1024x32_S8x1x1024x32_0_2_3 main_v132
  let main_v138 : FVec F S8x1x1024x32 .f32 := broadcastInDim S8x1x1024x32 ![0, 2, 3] bcast_S8x1024x32_S8x1x1024x32_0_2_3 main_v135
  let main_v139 : FVec F S8x3x1024x32 .f32 := concatenate S8x3x1024x32 1 [⟨S8x1x1024x32, main_v136⟩, ⟨S8x1x1024x32, main_v137⟩, ⟨S8x1x1024x32, main_v138⟩] concatenates_S8x1x1024x32_S8x1x1024x32_S8x1x1024x32_S8x3x1024x32_d1
  let main_v140 : FVec F S8x3x1024x32 .f32 := broadcastInDim S8x3x1024x32 ![0, 1, 2, 3] bcast_S8x3x1024x1_S8x3x1024x32_0_1_2_3 main_v43
  let main_v141 : FVec F S8x3x1024x32 .f32 := mulf main_v139 main_v140
  let main_cst_18 : FVec F S_ .f32 := constant S_ .f32 0x00000000#32
  let main_v142 : FVec F S8x1024x32 .f32 := (fun x v => Host.reduceAdd x v reducesTo_S8x3x1024x32_S8x1024x32_d1 h_S_) main_v141 main_cst_18
  let main_v143 : FVec F S8x1x1024x32 .f32 := broadcastInDim S8x1x1024x32 ![0, 2, 3] bcast_S8x1024x32_S8x1x1024x32_0_2_3 main_v142
  let main_v144 : FVec F S8x3x1024x32 .f32 := mulf main_v90 main_v114
  fn_part7 (F := F) main_arg2 main_arg3 main_v35 main_v114 main_v143 main_v144

def fn_part5 {F : FTy → Type} [FloatOps F] (main_arg2 : FVec F S8x1024x32 .f32) (main_arg3 : FVec F S8x32x1024x32 .f32) (main_v35 : FVec F S8x3x1024x32 .f32) (main_v43 : FVec F S8x3x1024x1 .f32) (main_v90 : FVec F S8x3x1024x32 .f32) (main_v98 : FVec F S8x3x1024x1 .f32) (main_v100 : FVec F S8x3x1024x32 .f32) : IVec S8x32x1024x32 1 :=
  let main_cst_15 : FVec F S_ .f32 := constant S_ .f32 0x00000000#32
  let main_v101 : FVec F S8x1024x32 .f32 := (fun x v => Host.reduceAdd x v reducesTo_S8x3x1024x32_S8x1024x32_d1 h_S_) main_v100 main_cst_15
  let main_v102 : FVec F S8x1x1024x32 .f32 := broadcastInDim S8x1x1024x32 ![0, 2, 3] bcast_S8x1024x32_S8x1x1024x32_0_2_3 main_v101
  let main_v103 : FVec F S8x3x1024x32 .f32 := broadcastInDim S8x3x1024x32 ![0, 1, 2, 3] bcast_S8x1x1024x32_S8x3x1024x32_0_1_2_3 main_v102
  let main_v104 : FVec F S8x3x1024x32 .f32 := broadcastInDim S8x3x1024x32 ![0, 1, 2, 3] bcast_S8x3x1024x1_S8x3x1024x32_0_1_2_3 main_v98
  let main_v105 : FVec F S8x3x1024x32 .f32 := mulf main_v103 main_v104
  let main_v106 : FVec F S8x3x1024x32 .f32 := subf main_v35 main_v105
  let main_v107 : FVec F S8x3x1024x32 .f32 := mulf main_v106 main_v106
  let main_cst_16 : FVec F S_ .f32 := constant S_ .f32 0x00000000#32
  let main_v108 : FVec F S8x1024x32 .f32 := (fun x v => Host.reduceAdd x v reducesTo_S8x3x1024x32_S8x1024x32_d1 h_S_) main_v107 main_cst_16
  let main_v109 : FVec F S8x1x1024x32 .f32 := broadcastInDim S8x1x1024x32 ![0, 2, 3] bcast_S8x1024x32_S8x1x1024x32_0_2_3 main_v108
  let main_v110 : FVec F S8x1x1024x32 .f32 := Host.sqrt main_v109
  let main_cst_17 : FVec F S_ .f32 := constant S_ .f32 0x358637BD#32
  let main_v111 : FVec F S8x1x1024x32 .f32 := broadcastInDim S8x1x1024x32 ![] bcast_S_S8x1x1024x32 main_cst_17
  let main_v112 : FVec F S8x1x1024x32 .f32 := addf main_v110 main_v111
  let main_v113 : FVec F S8x3x1024x32 .f32 := broadcastInDim S8x3x1024x32 ![0, 1, 2, 3] bcast_S8x1x1024x32_S8x3x1024x32_0_1_2_3 main_v112
  let main_v114 : FVec F S8x3x1024x32 .f32 := Host.divf main_v106 main_v113
  let main_v115 : FVec F S8x1x1024x32 .f32 := (extractStridedSlice S8x1x1024x32 ![0, 0, 0, 0] · slices_S8x3x1024x32_S8x1x1024x32_0_0_0_0) main_v90
  let main_v116 : FVec F S8x1024x32 .f32 := shapeCast S8x1024x32 main_v115 shapeCasts_S8x1x1024x32_S8x1024x32
  let main_v117 : FVec F S8x1x1024x32 .f32 := (extractStridedSlice S8x1x1024x32 ![0, 1, 0, 0] · slices_S8x3x1024x32_S8x1x1024x32_0_1_0_0) main_v90
  let main_v118 : FVec F S8x1024x32 .f32 := shapeCast S8x1024x32 main_v117 shapeCasts_S8x1x1024x32_S8x1024x32
  let main_v119 : FVec F S8x1x1024x32 .f32 := (extractStridedSlice S8x1x1024x32 ![0, 2, 0, 0] · slices_S8x3x1024x32_S8x1x1024x32_0_2_0_0) main_v90
  let main_v120 : FVec F S8x1024x32 .f32 := shapeCast S8x1024x32 main_v119 shapeCasts_S8x1x1024x32_S8x1024x32
  let main_v121 : FVec F S8x1x1024x32 .f32 := (extractStridedSlice S8x1x1024x32 ![0, 0, 0, 0] · slices_S8x3x1024x32_S8x1x1024x32_0_0_0_0) main_v114
  fn_part6 (F := F) main_arg2 main_arg3 main_v35 main_v43 main_v90 main_v114 main_v116 main_v118 main_v120 main_v121

def fn_part4 {F : FTy → Type} [FloatOps F] (main_arg2 : FVec F S8x1024x32 .f32) (main_arg3 : FVec F S8x32x1024x32 .f32) (main_v35 : FVec F S8x3x1024x32 .f32) (main_v43 : FVec F S8x3x1024x1 .f32) (main_v78 : FVec F S8x1x1024x1 .f32) (main_v79 : FVec F S8x1x1024x1 .f32) (main_v80 : FVec F S8x1x1024x1 .f32) : IVec S8x32x1024x32 1 :=
  let main_v81 : FVec F S8x3x1024x1 .f32 := concatenate S8x3x1024x1 1 [⟨S8x1x1024x1, main_v78⟩, ⟨S8x1x1024x1, main_v79⟩, ⟨S8x1x1024x1, main_v80⟩] concatenates_S8x1x1024x1_S8x1x1024x1_S8x1x1024x1_S8x3x1024x1_d1
  let main_v82 : FVec F S8x3x1024x1 .f32 := mulf main_v81 main_v81
  let main_cst_11 : FVec F S_ .f32 := constant S_ .f32 0x00000000#32
  let main_v83 : FVec F S8x1024x1 .f32 := (fun x v => Host.reduceAdd x v reducesTo_S8x3x1024x1_S8x1024x1_d1 h_S_) main_v82 main_cst_11
  let main_v84 : FVec F S8x1x1024x1 .f32 := broadcastInDim S8x1x1024x1 ![0, 2, 3] bcast_S8x1024x1_S8x1x1024x1_0_2_3 main_v83
  let main_v85 : FVec F S8x1x1024x1 .f32 := Host.sqrt main_v84
  let main_cst_12 : FVec F S_ .f32 := constant S_ .f32 0x358637BD#32
  let main_v86 : FVec F S8x1x1024x1 .f32 := broadcastInDim S8x1x1024x1 ![] bcast_S_S8x1x1024x1 main_cst_12
  let main_v87 : FVec F S8x1x1024x1 .f32 := addf main_v85 main_v86
  let main_v88 : FVec F S8x3x1024x1 .f32 := broadcastInDim S8x3x1024x1 ![0, 1, 2, 3] bcast_S8x1x1024x1_S8x3x1024x1_0_1_2_3 main_v87
  let main_v89 : FVec F S8x3x1024x1 .f32 := Host.divf main_v81 main_v88
  let main_v90 : FVec F S8x3x1024x32 .f32 := broadcastInDim S8x3x1024x32 ![0, 1, 2, 3] bcast_S8x3x1024x1_S8x3x1024x32_0_1_2_3 main_v89
  let main_v91 : FVec F S8x3x1024x1 .f32 := mulf main_v43 main_v43
  let main_cst_13 : FVec F S_ .f32 := constant S_ .f32 0x00000000#32
  let main_v92 : FVec F S8x1024x1 .f32 := (fun x v => Host.reduceAdd x v reducesTo_S8x3x1024x1_S8x1024x1_d1 h_S_) main_v91 main_cst_13
  let main_v93 : FVec F S8x1x1024x1 .f32 := broadcastInDim S8x1x1024x1 ![0, 2, 3] bcast_S8x1024x1_S8x1x1024x1_0_2_3 main_v92
  let main_v94 : FVec F S8x1x1024x1 .f32 := Host.sqrt main_v93
  let main_cst_14 : FVec F S_ .f32 := constant S_ .f32 0x358637BD#32
  let main_v95 : FVec F S8x1x1024x1 .f32 := broadcastInDim S8x1x1024x1 ![] bcast_S_S8x1x1024x1 main_cst_14
  let main_v96 : FVec F S8x1x1024x1 .f32 := addf main_v94 main_v95
  let main_v97 : FVec F S8x3x1024x1 .f32 := broadcastInDim S8x3x1024x1 ![0, 1, 2, 3] bcast_S8x1x1024x1_S8x3x1024x1_0_1_2_3 main_v96
  let main_v98 : FVec F S8x3x1024x1 .f32 := Host.divf main_v43 main_v97
  let main_v99 : FVec F S8x3x1024x32 .f32 := broadcastInDim S8x3x1024x32 ![0, 1, 2, 3] bcast_S8x3x1024x1_S8x3x1024x32_0_1_2_3 main_v98
  let main_v100 : FVec F S8x3x1024x32 .f32 := mulf main_v99 main_v35
  fn_part5 (F := F) main_arg2 main_arg3 main_v35 main_v43 main_v90 main_v98 main_v100

def fn_part3 {F : FTy → Type} [FloatOps F] (main_arg2 : FVec F S8x1024x32 .f32) (main_arg3 : FVec F S8x32x1024x32 .f32) (main_v35 : FVec F S8x3x1024x32 .f32) (main_v43 : FVec F S8x3x1024x1 .f32) (main_v53 : FVec F S8x1024x1 .f32) (main_v55 : FVec F S8x1024x1 .f32) (main_v57 : FVec F S8x1024x1 .f32) (main_v58 : FVec F S8x1024x1 .f32) (main_cst_8 : FVec F S_ .f32) : IVec S8x32x1024x32 1 :=
  let main_v59 : FVec F S8x1024x1 .f32 := broadcastInDim S8x1024x1 ![] bcast_S_S8x1024x1 main_cst_8
  let main_v60 : IVec S8x1024x1 1 := cmpf .ogt main_v58 main_v59
  let main_v61 : FVec F S8x1024x1 .f32 := Host.negf main_v55
  let main_v62 : FVec F S8x1024x1 .f32 := mulf main_v61 main_v53
  let main_v63 : FVec F S8x1024x1 .f32 := mulf main_v53 main_v53
  let main_cst_9 : FVec F S_ .f32 := constant S_ .f32 0x3F800000#32
  let main_v64 : FVec F S8x1024x1 .f32 := broadcastInDim S8x1024x1 ![] bcast_S_S8x1024x1 main_cst_9
  let main_v65 : FVec F S8x1024x1 .f32 := subf main_v64 main_v63
  let main_v66 : FVec F S8x1024x1 .f32 := fn_where_1 (F := F) main_v60 main_v62 main_v65
  let main_v67 : FVec F S8x1024x1 .f32 := mulf main_v55 main_v55
  let main_cst_10 : FVec F S_ .f32 := constant S_ .f32 0x3F800000#32
  let main_v68 : FVec F S8x1024x1 .f32 := broadcastInDim S8x1024x1 ![] bcast_S_S8x1024x1 main_cst_10
  let main_v69 : FVec F S8x1024x1 .f32 := subf main_v68 main_v67
  let main_v70 : FVec F S8x1024x1 .f32 := Host.negf main_v53
  let main_v71 : FVec F S8x1024x1 .f32 := mulf main_v70 main_v55
  let main_v72 : FVec F S8x1024x1 .f32 := fn_where_1 (F := F) main_v60 main_v69 main_v71
  let main_v73 : FVec F S8x1024x1 .f32 := Host.negf main_v55
  let main_v74 : FVec F S8x1024x1 .f32 := mulf main_v73 main_v57
  let main_v75 : FVec F S8x1024x1 .f32 := Host.negf main_v53
  let main_v76 : FVec F S8x1024x1 .f32 := mulf main_v75 main_v57
  let main_v77 : FVec F S8x1024x1 .f32 := fn_where_1 (F := F) main_v60 main_v74 main_v76
  let main_v78 : FVec F S8x1x1024x1 .f32 := broadcastInDim S8x1x1024x1 ![0, 2, 3] bcast_S8x1024x1_S8x1x1024x1_0_2_3 main_v66
  let main_v79 : FVec F S8x1x1024x1 .f32 := broadcastInDim S8x1x1024x1 ![0, 2, 3] bcast_S8x1024x1_S8x1x1024x1_0_2_3 main_v72
  let main_v80 : FVec F S8x1x1024x1 .f32 := broadcastInDim S8x1x1024x1 ![0, 2, 3] bcast_S8x1024x1_S8x1x1024x1_0_2_3 main_v77
  fn_part4 (F := F) main_arg2 main_arg3 main_v35 main_v43 main_v78 main_v79 main_v80

def fn_part2 {F : FTy → Type} [FloatOps F] (main_arg2 : FVec F S8x1024x32 .f32) (main_arg3 : FVec F S8x32x1024x32 .f32) (main_v33 : FVec F S8x3x1024x1 .f32) (main_v35 : FVec F S8x3x1024x32 .f32) (main_v38 : FVec F S8x1x1024x1 .f32) : IVec S8x32x1024x32 1 :=
  let main_v39 : FVec F S8x1x1024x1 .f32 := Host.sqrt main_v38
  let main_cst_5 : FVec F S_ .f32 := constant S_ .f32 0x358637BD#32
  let main_v40 : FVec F S8x1x1024x1 .f32 := broadcastInDim S8x1x1024x1 ![] bcast_S_S8x1x1024x1 main_cst_5
  let main_v41 : FVec F S8x1x1024x1 .f32 := addf main_v39 main_v40
  let main_v42 : FVec F S8x3x1024x1 .f32 := broadcastInDim S8x3x1024x1 ![0, 1, 2, 3] bcast_S8x1x1024x1_S8x3x1024x1_0_1_2_3 main_v41
  let main_v43 : FVec F S8x3x1024x1 .f32 := Host.divf main_v33 main_v42
  let main_v44 : FVec F S8x3x1024x1 .f32 := mulf main_v43 main_v43
  let main_cst_6 : FVec F S_ .f32 := constant S_ .f32 0x00000000#32
  let main_v45 : FVec F S8x1024x1 .f32 := (fun x v => Host.reduceAdd x v reducesTo_S8x3x1024x1_S8x1024x1_d1 h_S_) main_v44 main_cst_6
  let main_v46 : FVec F S8x1x1024x1 .f32 := broadcastInDim S8x1x1024x1 ![0, 2, 3] bcast_S8x1024x1_S8x1x1024x1_0_2_3 main_v45
  let main_v47 : FVec F S8x1x1024x1 .f32 := Host.sqrt main_v46
  let main_cst_7 : FVec F S_ .f32 := constant S_ .f32 0x358637BD#32
  let main_v48 : FVec F S8x1x1024x1 .f32 := broadcastInDim S8x1x1024x1 ![] bcast_S_S8x1x1024x1 main_cst_7
  let main_v49 : FVec F S8x1x1024x1 .f32 := addf main_v47 main_v48
  let main_v50 : FVec F S8x3x1024x1 .f32 := broadcastInDim S8x3x1024x1 ![0, 1, 2, 3] bcast_S8x1x1024x1_S8x3x1024x1_0_1_2_3 main_v49
  let main_v51 : FVec F S8x3x1024x1 .f32 := Host.divf main_v43 main_v50
  let main_v52 : FVec F S8x1x1024x1 .f32 := (extractStridedSlice S8x1x1024x1 ![0, 0, 0, 0] · slices_S8x3x1024x1_S8x1x1024x1_0_0_0_0) main_v51
  let main_v53 : FVec F S8x1024x1 .f32 := shapeCast S8x1024x1 main_v52 shapeCasts_S8x1x1024x1_S8x1024x1
  let main_v54 : FVec F S8x1x1024x1 .f32 := (extractStridedSlice S8x1x1024x1 ![0, 1, 0, 0] · slices_S8x3x1024x1_S8x1x1024x1_0_1_0_0) main_v51
  let main_v55 : FVec F S8x1024x1 .f32 := shapeCast S8x1024x1 main_v54 shapeCasts_S8x1x1024x1_S8x1024x1
  let main_v56 : FVec F S8x1x1024x1 .f32 := (extractStridedSlice S8x1x1024x1 ![0, 2, 0, 0] · slices_S8x3x1024x1_S8x1x1024x1_0_2_0_0) main_v51
  let main_v57 : FVec F S8x1024x1 .f32 := shapeCast S8x1024x1 main_v56 shapeCasts_S8x1x1024x1_S8x1024x1
  let main_v58 : FVec F S8x1024x1 .f32 := Host.absf main_v53
  let main_cst_8 : FVec F S_ .f32 := constant S_ .f32 0x3F7FBE77#32
  fn_part3 (F := F) main_arg2 main_arg3 main_v35 main_v43 main_v53 main_v55 main_v57 main_v58 main_cst_8

def fn_part1 {F : FTy → Type} [FloatOps F] (main_arg0 : FVec F S8x8192x3 .f32) (main_arg1 : FVec F S8x1024x3 .f32) (main_arg2 : FVec F S8x1024x32 .f32) (main_arg3 : FVec F S8x32x1024x32 .f32) (main_indices : IVec S8x1024x33 32) (main_v15 : IVec S8x1024x1 32) (main_v17 : IVec S1x1x33 32) : IVec S8x32x1024x32 1 :=
  let main_v18 : IVec S8x1024x33 32 := broadcastInDim S8x1024x33 ![0, 1, 2] bcast_S1x1x33_S8x1024x33_0_1_2 main_v17
  let main_v19 : IVec S8x1024x33 32 := broadcastInDim S8x1024x33 ![0, 1, 2] bcast_S8x1024x1_S8x1024x33_0_1_2 main_v15
  let main_v20 : IVec S8x1024x33 1 := cmpi .slt main_v18 main_v19
  let main_v21 : IVec S8x1024x1 32 := (extractStridedSlice S8x1024x1 ![0, 0, 0] · slices_S8x1024x33_S8x1024x1_0_0_0) main_indices
  let main_v22 : IVec S8x1024x33 32 := fn_where_0 (F := F) main_v20 main_indices main_v21
  let main_v23 : FVec F S8x3x8192 .f32 := (transpose S8x3x8192 [0, 2, 1] · transposes_S8x8192x3_S8x3x8192_0_2_1) main_arg0
  let main_c_2 : IVec S_ 32 := constantI S_ 32 0#32
  let main_v24 : IVec S8x1024x33 32 := broadcastInDim S8x1024x33 ![] bcast_S_S8x1024x33 main_c_2
  let main_v25 : IVec S8x1024x33 1 := cmpi .slt main_v22 main_v24
  let main_c_3 : IVec S_ 32 := constantI S_ 32 8192#32
  let main_v26 : IVec S8x1024x33 32 := broadcastInDim S8x1024x33 ![] bcast_S_S8x1024x33 main_c_3
  let main_v27 : IVec S8x1024x33 32 := addi main_v22 main_v26
  let main_v28 : IVec S8x1024x33 32 := select main_v25 main_v27 main_v22
  let main_v29 : IVec S8x1024x33x1 32 := broadcastInDim S8x1024x33x1 ![0, 1, 2] bcast_S8x1024x33_S8x1024x33x1_0_1_2 main_v28
  let main_v30 : FVec F S8x3x1024x33 .f32 := (fun x i => Host.gather gather_S8x3x8192_S8x1024x33x1_S8x3x1024x33_1_2_0_0_2_3_131 x i) main_v23 main_v29
  let main_v31 : FVec F S8x3x1024x32 .f32 := (extractStridedSlice S8x3x1024x32 ![0, 0, 0, 1] · slices_S8x3x1024x33_S8x3x1024x32_0_0_0_1) main_v30
  let main_v32 : FVec F S8x3x1024 .f32 := (transpose S8x3x1024 [0, 2, 1] · transposes_S8x1024x3_S8x3x1024_0_2_1) main_arg1
  let main_v33 : FVec F S8x3x1024x1 .f32 := broadcastInDim S8x3x1024x1 ![0, 1, 2] bcast_S8x3x1024_S8x3x1024x1_0_1_2 main_v32
  let main_v34 : FVec F S8x3x1024x32 .f32 := broadcastInDim S8x3x1024x32 ![0, 1, 2, 3] bcast_S8x3x1024x1_S8x3x1024x32_0_1_2_3 main_v33
  let main_v35 : FVec F S8x3x1024x32 .f32 := subf main_v31 main_v34
  let main_v36 : FVec F S8x3x1024x1 .f32 := mulf main_v33 main_v33
  let main_cst_4 : FVec F S_ .f32 := constant S_ .f32 0x00000000#32
  let main_v37 : FVec F S8x1024x1 .f32 := (fun x v => Host.reduceAdd x v reducesTo_S8x3x1024x1_S8x1024x1_d1 h_S_) main_v36 main_cst_4
  let main_v38 : FVec F S8x1x1024x1 .f32 := broadcastInDim S8x1x1024x1 ![0, 2, 3] bcast_S8x1024x1_S8x1x1024x1_0_2_3 main_v37
  fn_part2 (F := F) main_arg2 main_arg3 main_v33 main_v35 main_v38

def fn {F : FTy → Type} [FloatOps F] (main_arg0 : FVec F S8x8192x3 .f32) (main_arg1 : FVec F S8x1024x3 .f32) (main_arg2 : FVec F S8x1024x32 .f32) (main_arg3 : FVec F S8x32x1024x32 .f32) : IVec S8x32x1024x32 1 :=
  let main_v0 : FVec F S8x1024x1x3 .f32 := broadcastInDim S8x1024x1x3 ![0, 1, 3] bcast_S8x1024x3_S8x1024x1x3_0_1_3 main_arg1
  let main_v1 : FVec F S8x1x8192x3 .f32 := broadcastInDim S8x1x8192x3 ![0, 2, 3] bcast_S8x8192x3_S8x1x8192x3_0_2_3 main_arg0
  let main_v2 : FVec F S8x1024x8192x3 .f32 := broadcastInDim S8x1024x8192x3 ![0, 1, 2, 3] bcast_S8x1024x1x3_S8x1024x8192x3_0_1_2_3 main_v0
  let main_v3 : FVec F S8x1024x8192x3 .f32 := broadcastInDim S8x1024x8192x3 ![0, 1, 2, 3] bcast_S8x1x8192x3_S8x1024x8192x3_0_1_2_3 main_v1
  let main_v4 : FVec F S8x1024x8192x3 .f32 := subf main_v2 main_v3
  let main_v5 : FVec F S8x1024x8192x3 .f32 := mulf main_v4 main_v4
  let main_cst : FVec F S_ .f32 := constant S_ .f32 0x00000000#32
  let main_v6 : FVec F S8x1024x8192 .f32 := (fun x v => Host.reduceAdd x v reducesTo_S8x1024x8192x3_S8x1024x8192_d3 h_S_) main_v5 main_cst
  let main_cst_0 : FVec F S_ .f32 := constant S_ .f32 0x3D23D70A#32
  let main_v7 : FVec F S8x1024x8192 .f32 := broadcastInDim S8x1024x8192 ![] bcast_S_S8x1024x8192 main_cst_0
  let main_v8 : IVec S8x1024x8192 1 := cmpf .olt main_v6 main_v7
  let main_v9 : IVec S8192 32 := iotaInDim S8192 32 0
  let main_v10 : IVec S1x1x8192 32 := broadcastInDim S1x1x8192 ![2] bcast_S8192_S1x1x8192_2 main_v9
  let main_c : IVec S_ 32 := constantI S_ 32 8192#32
  let main_v11 : IVec S8x1024x8192 32 := fn_where (F := F) main_v8 main_v10 main_c
  let main_v12 : IVec S8x1024x8192 32 := negi main_v11
  let main_values : IVec S8x1024x33 32 := (fun x => (Host.topK S8x1024x33 2 (IntOp.cmpi .sgt) x sliceFits_S8x1024x8192_S8x1024x33).1) main_v12
  let main_indices : IVec S8x1024x33 32 := (fun x => (Host.topK S8x1024x33 2 (IntOp.cmpi .sgt) x sliceFits_S8x1024x8192_S8x1024x33).2) main_v12
  let main_v13 : IVec S8x1024x8192 32 := (extui 32 · natLt_1_32) main_v8
  let main_c_1 : IVec S_ 32 := constantI S_ 32 0#32
  let main_v14 : IVec S8x1024 32 := (fun x v => Host.reduce IntOp.addi x v reducesTo_S8x1024x8192_S8x1024_d2 h_S_) main_v13 main_c_1
  let main_v15 : IVec S8x1024x1 32 := broadcastInDim S8x1024x1 ![0, 1] bcast_S8x1024_S8x1024x1_0_1 main_v14
  let main_v16 : IVec S33 32 := iotaInDim S33 32 0
  let main_v17 : IVec S1x1x33 32 := broadcastInDim S1x1x33 ![2] bcast_S33_S1x1x33_2 main_v16
  fn_part1 (F := F) main_arg0 main_arg1 main_arg2 main_arg3 main_indices main_v15 main_v17
-- ==== Kernel.lean ====
abbrev S8x8192x3 : Shape := ⟨3, ![8, 8192, 3]⟩
abbrev S8x1024x3 : Shape := ⟨3, ![8, 1024, 3]⟩
abbrev S8x1024x32 : Shape := ⟨3, ![8, 1024, 32]⟩
abbrev S8x3x8192 : Shape := ⟨3, ![8, 3, 8192]⟩
abbrev S8x32x1024x32 : Shape := ⟨4, ![8, 32, 1024, 32]⟩
abbrev S1x3x8192 : Shape := ⟨3, ![1, 3, 8192]⟩
abbrev S1x8192x3 : Shape := ⟨3, ![1, 8192, 3]⟩
abbrev S1x128x3 : Shape := ⟨3, ![1, 128, 3]⟩
abbrev S1x128x32 : Shape := ⟨3, ![1, 128, 32]⟩
abbrev S1x32x128x32 : Shape := ⟨4, ![1, 32, 128, 32]⟩
abbrev S3x8192 : Shape := ⟨2, ![3, 8192]⟩
abbrev S1x128x1 : Shape := ⟨3, ![1, 128, 1]⟩
abbrev S128x1 : Shape := ⟨2, ![128, 1]⟩
abbrev S33x1x1 : Shape := ⟨3, ![33, 1, 1]⟩
abbrev S512x512 : Shape := ⟨2, ![512, 512]⟩
abbrev S4224x3 : Shape := ⟨2, ![4224, 3]⟩
abbrev S1 : Shape := ⟨1, ![1]⟩
abbrev S1x1x1 : Shape := ⟨3, ![1, 1, 1]⟩
abbrev S1x3x512 : Shape := ⟨3, ![1, 3, 512]⟩
abbrev S3x512 : Shape := ⟨2, ![3, 512]⟩
abbrev S1x512x3 : Shape := ⟨3, ![1, 512, 3]⟩
abbrev S512x3 : Shape := ⟨2, ![512, 3]⟩
abbrev S512x9 : Shape := ⟨2, ![512, 9]⟩
abbrev S1x512 : Shape := ⟨2, ![1, 512]⟩
abbrev S128x512 : Shape := ⟨2, ![128, 512]⟩
abbrev S1x128x512 : Shape := ⟨3, ![1, 128, 512]⟩
abbrev S33x128x512 : Shape := ⟨3, ![33, 128, 512]⟩
abbrev S4224x512 : Shape := ⟨2, ![4224, 512]⟩
abbrev S4224x9 : Shape := ⟨2, ![4224, 9]⟩
abbrev S33x128x3 : Shape := ⟨3, ![33, 128, 3]⟩
abbrev S33x128x1 : Shape := ⟨3, ![33, 128, 1]⟩
abbrev S33x128 : Shape := ⟨2, ![33, 128]⟩
abbrev S128x33 : Shape := ⟨2, ![128, 33]⟩
abbrev S1x1 : Shape := ⟨2, ![1, 1]⟩
abbrev S1x33 : Shape := ⟨2, ![1, 33]⟩
abbrev S128x32 : Shape := ⟨2, ![128, 32]⟩
abbrev S128x32x1 : Shape := ⟨3, ![128, 32, 1]⟩
abbrev S128x1x32 : Shape := ⟨3, ![128, 1, 32]⟩
abbrev S1x32x32 : Shape := ⟨3, ![1, 32, 32]⟩
abbrev S128x32x32 : Shape := ⟨3, ![128, 32, 32]⟩
abbrev S1x1x32 : Shape := ⟨3, ![1, 1, 32]⟩
abbrev S1x1x128x32 : Shape := ⟨4, ![1, 1, 128, 32]⟩
abbrev S128x31 : Shape := ⟨2, ![128, 31]⟩
abbrev S128x30 : Shape := ⟨2, ![128, 30]⟩
abbrev S128x2 : Shape := ⟨2, ![128, 2]⟩
abbrev S128x29 : Shape := ⟨2, ![128, 29]⟩
abbrev S128x3 : Shape := ⟨2, ![128, 3]⟩
abbrev S128x28 : Shape := ⟨2, ![128, 28]⟩
abbrev S128x4 : Shape := ⟨2, ![128, 4]⟩
abbrev S128x27 : Shape := ⟨2, ![128, 27]⟩
abbrev S128x5 : Shape := ⟨2, ![128, 5]⟩
abbrev S128x26 : Shape := ⟨2, ![128, 26]⟩
abbrev S128x6 : Shape := ⟨2, ![128, 6]⟩
abbrev S128x25 : Shape := ⟨2, ![128, 25]⟩
abbrev S128x7 : Shape := ⟨2, ![128, 7]⟩

abbrev nBuf : Space → Nat
  | .hbm => 5
  | .vmem => 10
  | .smem => 0
  | _ => 0

abbrev bufTy : (tb : Table) → Fin (tcTables nBuf tb) → BufTy
  | .hbm, ⟨0, _⟩ => ⟨S8x8192x3, .f32⟩
  | .hbm, ⟨1, _⟩ => ⟨S8x1024x3, .f32⟩
  | .hbm, ⟨2, _⟩ => ⟨S8x1024x32, .f32⟩
  | .hbm, ⟨3, _⟩ => ⟨S8x3x8192, .f32⟩
  | .hbm, ⟨4, _⟩ => ⟨S8x32x1024x32, .f32⟩
  | .local _ .vmem, ⟨0, _⟩ => ⟨S1x3x8192, .f32⟩
  | .local _ .vmem, ⟨1, _⟩ => ⟨S1x3x8192, .f32⟩
  | .local _ .vmem, ⟨2, _⟩ => ⟨S1x8192x3, .f32⟩
  | .local _ .vmem, ⟨3, _⟩ => ⟨S1x8192x3, .f32⟩
  | .local _ .vmem, ⟨4, _⟩ => ⟨S1x128x3, .f32⟩
  | .local _ .vmem, ⟨5, _⟩ => ⟨S1x128x3, .f32⟩
  | .local _ .vmem, ⟨6, _⟩ => ⟨S1x128x32, .f32⟩
  | .local _ .vmem, ⟨7, _⟩ => ⟨S1x128x32, .f32⟩
  | .local _ .vmem, ⟨8, _⟩ => ⟨S1x32x128x32, .f32⟩
  | .local _ .vmem, ⟨9, _⟩ => ⟨S1x32x128x32, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_off1 (arg7 : BitVec 32) : Fin 3 → Nat :=
  let c0_146 : Index := 0#32
  let c0_147 : Index := 0#32
  let c512_i32 : BitVec 32 := 512#32
  let v459 : BitVec 32 := Scalar.muli arg7 c512_i32
  let v460 : Index := Scalar.indexCast v459
  ![0, 0, v460.toNat]

def k0_off2 (arg7 : BitVec 32) : Fin 3 → Nat :=
  let c0_149 : Index := 0#32
  let c512_i32_148 : BitVec 32 := 512#32
  let v463 : BitVec 32 := Scalar.muli arg7 c512_i32_148
  let v464 : Index := Scalar.indexCast v463
  let c0_150 : Index := 0#32
  ![0, v464.toNat, 0]

def k0_chk1 (arg7 : BitVec 32) : Prop :=
  (∀ a, (k0_off1 arg7) a + S1x3x512.size a ≤ S1x3x8192.size a) ∧
  (∀ a, (k0_off2 arg7) a + S1x512x3.size a ≤ S1x8192x3.size a)
theorem k0_off1_inb : ∀ (arg7 : BitVec 32) (k0_hw1 : k0_chk1 arg7), ∀ a, (k0_off1 arg7) a + S1x3x512.size a ≤ S1x3x8192.size a := fun arg7 k0_hw1 => k0_hw1.1
theorem k0_off2_inb : ∀ (arg7 : BitVec 32) (k0_hw1 : k0_chk1 arg7), ∀ a, (k0_off2 arg7) a + S1x512x3.size a ≤ S1x8192x3.size a := fun arg7 k0_hw1 => k0_hw1.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x8192x3 : Shape := ⟨3, ![8, 8192, 3]⟩
abbrev S8x1024x3 : Shape := ⟨3, ![8, 1024, 3]⟩
abbrev S8x1024x32 : Shape := ⟨3, ![8, 1024, 32]⟩
abbrev S8x1024x1x3 : Shape := ⟨4, ![8, 1024, 1, 3]⟩
abbrev S8x1x8192x3 : Shape := ⟨4, ![8, 1, 8192, 3]⟩
abbrev S8x1024x8192x3 : Shape := ⟨4, ![8, 1024, 8192, 3]⟩
abbrev S_ : Shape := ⟨0, ![]⟩
abbrev S8x1024x8192 : Shape := ⟨3, ![8, 1024, 8192]⟩
abbrev S8192 : Shape := ⟨1, ![8192]⟩
abbrev S1x1x8192 : Shape := ⟨3, ![1, 1, 8192]⟩
abbrev S8x1024x33 : Shape := ⟨3, ![8, 1024, 33]⟩
abbrev S8x1024 : Shape := ⟨2, ![8, 1024]⟩
abbrev S8x1024x1 : Shape := ⟨3, ![8, 1024, 1]⟩
abbrev S33 : Shape := ⟨1, ![33]⟩
abbrev S1x1x33 : Shape := ⟨3, ![1, 1, 33]⟩
abbrev S8x3x8192 : Shape := ⟨3, ![8, 3, 8192]⟩
abbrev S8x1024x33x1 : Shape := ⟨4, ![8, 1024, 33, 1]⟩
abbrev S8x3x1024x33 : Shape := ⟨4, ![8, 3, 1024, 33]⟩
abbrev S8x3x1024x32 : Shape := ⟨4, ![8, 3, 1024, 32]⟩
abbrev S8x3x1024 : Shape := ⟨3, ![8, 3, 1024]⟩
abbrev S8x3x1024x1 : Shape := ⟨4, ![8, 3, 1024, 1]⟩
abbrev S8x1x1024x1 : Shape := ⟨4, ![8, 1, 1024, 1]⟩
abbrev S8x1x1024x32 : Shape := ⟨4, ![8, 1, 1024, 32]⟩
abbrev S8x3x1024x32x1 : Shape := ⟨5, ![8, 3, 1024, 32, 1]⟩
abbrev S1 : Shape := ⟨1, ![1]⟩
abbrev S1x1x1x1x1 : Shape := ⟨5, ![1, 1, 1, 1, 1]⟩
abbrev S8x8x128 : Shape := ⟨3, ![8, 8, 128]⟩
abbrev S8x8 : Shape := ⟨2, ![8, 8]⟩
abbrev S8x8x1 : Shape := ⟨3, ![8, 8, 1]⟩
abbrev S8x4x1024x32 : Shape := ⟨4, ![8, 4, 1024, 32]⟩
abbrev S8x4x1x1024x32 : Shape := ⟨5, ![8, 4, 1, 1024, 32]⟩
abbrev S8x4x1x1024x31 : Shape := ⟨5, ![8, 4, 1, 1024, 31]⟩
abbrev S8x4x1x1024x1 : Shape := ⟨5, ![8, 4, 1, 1024, 1]⟩
abbrev S8x4x8x1024x32 : Shape := ⟨5, ![8, 4, 8, 1024, 32]⟩
abbrev S8x32x1024x32 : Shape := ⟨4, ![8, 32, 1024, 32]⟩

abbrev nBuf : Space → Nat
  | .hbm => 326
  | .vmem => 0
  | .smem => 0
  | _ => 0

abbrev hbmTy0_0 (i : Nat) : BufTy := match i % 128 with
  | 0 => ⟨S8x8192x3, .f32⟩
  | 1 => ⟨S8x1024x3, .f32⟩
  | 2 => ⟨S8x1024x32, .f32⟩
  | 3 => ⟨S8x1024x1x3, .f32⟩
  | 4 => ⟨S8x1x8192x3, .f32⟩
  | 5 => ⟨S8x1024x8192x3, .f32⟩
  | 6 => ⟨S8x1024x8192x3, .f32⟩
  | 7 => ⟨S8x1024x8192x3, .f32⟩
  | 8 => ⟨S8x1024x8192x3, .f32⟩
  | 9 => ⟨S_, .f32⟩
  | 10 => ⟨S8x1024x8192, .f32⟩
  | 11 => ⟨S_, .f32⟩
  | 12 => ⟨S8x1024x8192, .f32⟩
  | 13 => ⟨S8x1024x8192, .i1⟩
  | 14 => ⟨S8192, .i32⟩
  | 15 => ⟨S1x1x8192, .i32⟩
  | 16 => ⟨S_, .i32⟩
  | 17 => ⟨S_, .i32⟩
  | 18 => ⟨S8x1024x8192, .i32⟩
  | 19 => ⟨S8x1024x8192, .i32⟩
  | 20 => ⟨S8x1024x8192, .i32⟩
  | 21 => ⟨S8x1024x8192, .i32⟩
  | 22 => ⟨S8x1024x33, .i32⟩
  | 23 => ⟨S8x1024x33, .i32⟩
  | 24 => ⟨S8x1024x8192, .i32⟩
  | 25 => ⟨S_, .i32⟩
  | 26 => ⟨S8x1024, .i32⟩
  | 27 => ⟨S8x1024x1, .i32⟩
  | 28 => ⟨S33, .i32⟩
  | 29 => ⟨S1x1x33, .i32⟩
  | 30 => ⟨S8x1024x33, .i32⟩
  | 31 => ⟨S8x1024x33, .i32⟩
  | 32 => ⟨S8x1024x33, .i1⟩
  | 33 => ⟨S8x1024x1, .i32⟩
  | 34 => ⟨S8x1024x33, .i32⟩
  | 35 => ⟨S8x1024x33, .i32⟩
  | 36 => ⟨S8x3x8192, .f32⟩
  | 37 => ⟨S_, .i32⟩
  | 38 => ⟨S8x1024x33, .i32⟩
  | 39 => ⟨S8x1024x33, .i1⟩
  | 40 => ⟨S_, .i32⟩
  | 41 => ⟨S8x1024x33, .i32⟩
  | 42 => ⟨S8x1024x33, .i32⟩
  | 43 => ⟨S8x1024x33, .i32⟩
  | 44 => ⟨S8x1024x33x1, .i32⟩
  | 45 => ⟨S8x3x1024x33, .f32⟩
  | 46 => ⟨S8x3x1024x32, .f32⟩
  | 47 => ⟨S8x3x1024, .f32⟩
  | 48 => ⟨S8x3x1024x1, .f32⟩
  | 49 => ⟨S8x3x1024x32, .f32⟩
  | 50 => ⟨S8x3x1024x32, .f32⟩
  | 51 => ⟨S8x3x1024x1, .f32⟩
  | 52 => ⟨S_, .f32⟩
  | 53 => ⟨S8x1024x1, .f32⟩
  | 54 => ⟨S8x1x1024x1, .f32⟩
  | 55 => ⟨S8x1x1024x1, .f32⟩
  | 56 => ⟨S_, .f32⟩
  | 57 => ⟨S8x1x1024x1, .f32⟩
  | 58 => ⟨S8x1x1024x1, .f32⟩
  | 59 => ⟨S8x3x1024x1, .f32⟩
  | 60 => ⟨S8x3x1024x1, .f32⟩
  | 61 => ⟨S8x3x1024x1, .f32⟩
  | 62 => ⟨S_, .f32⟩
  | 63 => ⟨S8x1024x1, .f32⟩
  | 64 => ⟨S8x1x1024x1, .f32⟩
  | 65 => ⟨S8x1x1024x1, .f32⟩
  | 66 => ⟨S_, .f32⟩
  | 67 => ⟨S8x1x1024x1, .f32⟩
  | 68 => ⟨S8x1x1024x1, .f32⟩
  | 69 => ⟨S8x3x1024x1, .f32⟩
  | 70 => ⟨S8x3x1024x1, .f32⟩
  | 71 => ⟨S8x1x1024x1, .f32⟩
  | 72 => ⟨S8x1024x1, .f32⟩
  | 73 => ⟨S8x1x1024x1, .f32⟩
  | 74 => ⟨S8x1024x1, .f32⟩
  | 75 => ⟨S8x1x1024x1, .f32⟩
  | 76 => ⟨S8x1024x1, .f32⟩
  | 77 => ⟨S8x1024x1, .f32⟩
  | 78 => ⟨S_, .f32⟩
  | 79 => ⟨S8x1024x1, .f32⟩
  | 80 => ⟨S8x1024x1, .i1⟩
  | 81 => ⟨S8x1024x1, .f32⟩
  | 82 => ⟨S8x1024x1, .f32⟩
  | 83 => ⟨S8x1024x1, .f32⟩
  | 84 => ⟨S_, .f32⟩
  | 85 => ⟨S8x1024x1, .f32⟩
  | 86 => ⟨S8x1024x1, .f32⟩
  | 87 => ⟨S8x1024x1, .f32⟩
  | 88 => ⟨S8x1024x1, .f32⟩
  | 89 => ⟨S_, .f32⟩
  | 90 => ⟨S8x1024x1, .f32⟩
  | 91 => ⟨S8x1024x1, .f32⟩
  | 92 => ⟨S8x1024x1, .f32⟩
  | 93 => ⟨S8x1024x1, .f32⟩
  | 94 => ⟨S8x1024x1, .f32⟩
  | 95 => ⟨S8x1024x1, .f32⟩
  | 96 => ⟨S8x1024x1, .f32⟩
  | 97 => ⟨S8x1024x1, .f32⟩
  | 98 => ⟨S8x1024x1, .f32⟩
  | 99 => ⟨S8x1024x1, .f32⟩
  | 100 => ⟨S8x1x1024x1, .f32⟩
  | 101 => ⟨S8x1x1024x1, .f32⟩
  | 102 => ⟨S8x1x1024x1, .f32⟩
  | 103 => ⟨S8x3x1024x1, .f32⟩
  | 104 => ⟨S8x3x1024x1, .f32⟩
  | 105 => ⟨S_, .f32⟩
  | 106 => ⟨S8x1024x1, .f32⟩
  | 107 => ⟨S8x1x1024x1, .f32⟩
  | 108 => ⟨S8x1x1024x1, .f32⟩
  | 109 => ⟨S_, .f32⟩
  | 110 => ⟨S8x1x1024x1, .f32⟩
  | 111 => ⟨S8x1x1024x1, .f32⟩
  | 112 => ⟨S8x3x1024x1, .f32⟩
  | 113 => ⟨S8x3x1024x1, .f32⟩
  | 114 => ⟨S8x3x1024x32, .f32⟩
  | 115 => ⟨S8x3x1024x1, .f32⟩
  | 116 => ⟨S_, .f32⟩
  | 117 => ⟨S8x1024x1, .f32⟩
  | 118 => ⟨S8x1x1024x1, .f32⟩
  | 119 => ⟨S8x1x1024x1, .f32⟩
  | 120 => ⟨S_, .f32⟩
  | 121 => ⟨S8x1x1024x1, .f32⟩
  | 122 => ⟨S8x1x1024x1, .f32⟩
  | 123 => ⟨S8x3x1024x1, .f32⟩
  | 124 => ⟨S8x3x1024x1, .f32⟩
  | 125 => ⟨S8x3x1024x32, .f32⟩
  | 126 => ⟨S8x3x1024x32, .f32⟩
  | 127 => ⟨S_, .f32⟩
  | _ => ⟨S8x8192x3, .f32⟩

abbrev hbmTy0_1 (i : Nat) : BufTy := match i % 128 with
  | 0 => ⟨S8x1024x32, .f32⟩
  | 1 => ⟨S8x1x1024x32, .f32⟩
  | 2 => ⟨S8x3x1024x32, .f32⟩
  | 3 => ⟨S8x3x1024x32, .f32⟩
  | 4 => ⟨S8x3x1024x32, .f32⟩
  | 5 => ⟨S8x3x1024x32, .f32⟩
  | 6 => ⟨S8x3x1024x32, .f32⟩
  | 7 => ⟨S_, .f32⟩
  | 8 => ⟨S8x1024x32, .f32⟩
  | 9 => ⟨S8x1x1024x32, .f32⟩
  | 10 => ⟨S8x1x1024x32, .f32⟩
  | 11 => ⟨S_, .f32⟩
  | 12 => ⟨S8x1x1024x32, .f32⟩
  | 13 => ⟨S8x1x1024x32, .f32⟩
  | 14 => ⟨S8x3x1024x32, .f32⟩
  | 15 => ⟨S8x3x1024x32, .f32⟩
  | 16 => ⟨S8x1x1024x32, .f32⟩
  | 17 => ⟨S8x1024x32, .f32⟩
  | 18 => ⟨S8x1x1024x32, .f32⟩
  | 19 => ⟨S8x1024x32, .f32⟩
  | 20 => ⟨S8x1x1024x32, .f32⟩
  | 21 => ⟨S8x1024x32, .f32⟩
  | 22 => ⟨S8x1x1024x32, .f32⟩
  | 23 => ⟨S8x1024x32, .f32⟩
  | 24 => ⟨S8x1x1024x32, .f32⟩
  | 25 => ⟨S8x1024x32, .f32⟩
  | 26 => ⟨S8x1x1024x32, .f32⟩
  | 27 => ⟨S8x1024x32, .f32⟩
  | 28 => ⟨S8x1024x32, .f32⟩
  | 29 => ⟨S8x1024x32, .f32⟩
  | 30 => ⟨S8x1024x32, .f32⟩
  | 31 => ⟨S8x1024x32, .f32⟩
  | 32 => ⟨S8x1024x32, .f32⟩
  | 33 => ⟨S8x1024x32, .f32⟩
  | 34 => ⟨S8x1024x32, .f32⟩
  | 35 => ⟨S8x1024x32, .f32⟩
  | 36 => ⟨S8x1024x32, .f32⟩
  | 37 => ⟨S8x1x1024x32, .f32⟩
  | 38 => ⟨S8x1x1024x32, .f32⟩
  | 39 => ⟨S8x1x1024x32, .f32⟩
  | 40 => ⟨S8x3x1024x32, .f32⟩
  | 41 => ⟨S8x3x1024x32, .f32⟩
  | 42 => ⟨S8x3x1024x32, .f32⟩
  | 43 => ⟨S_, .f32⟩
  | 44 => ⟨S8x1024x32, .f32⟩
  | 45 => ⟨S8x1x1024x32, .f32⟩
  | 46 => ⟨S8x3x1024x32, .f32⟩
  | 47 => ⟨S_, .f32⟩
  | 48 => ⟨S8x1024x32, .f32⟩
  | 49 => ⟨S8x1x1024x32, .f32⟩
  | 50 => ⟨S8x1x1024x32, .f32⟩
  | 51 => ⟨S8x3x1024x32, .f32⟩
  | 52 => ⟨S_, .f32⟩
  | 53 => ⟨S8x1024x32, .f32⟩
  | 54 => ⟨S8x1x1024x32, .f32⟩
  | 55 => ⟨S_, .f32⟩
  | 56 => ⟨S8x1x1024x32, .f32⟩
  | 57 => ⟨S8x1x1024x32, .i1⟩
  | 58 => ⟨S8x1x1024x32, .f32⟩
  | 59 => ⟨S8x1x1024x32, .f32⟩
  | 60 => ⟨S8x1x1024x32, .i32⟩
  | 61 => ⟨S8x1x1024x32, .f32⟩
  | 62 => ⟨S8x1x1024x32, .i32⟩
  | 63 => ⟨S8x3x1024x32, .i32⟩
  | 64 => ⟨S_, .i32⟩
  | 65 => ⟨S8x3x1024x32, .i32⟩
  | 66 => ⟨S8x3x1024x32, .i1⟩
  | 67 => ⟨S_, .i32⟩
  | 68 => ⟨S8x3x1024x32, .i32⟩
  | 69 => ⟨S8x3x1024x32, .i32⟩
  | 70 => ⟨S8x3x1024x32, .i32⟩
  | 71 => ⟨S8x3x1024x32x1, .i32⟩
  | 72 => ⟨S1, .i32⟩
  | 73 => ⟨S_, .i32⟩
  | 74 => ⟨S8x3x1024x32x1, .i32⟩
  | 75 => ⟨S8x3x1024x32x1, .i1⟩
  | 76 => ⟨S1x1x1x1x1, .i32⟩
  | 77 => ⟨S8x3x1024x32x1, .i32⟩
  | 78 => ⟨S8x3x1024x32x1, .i1⟩
  | 79 => ⟨S8x3x1024x32x1, .i1⟩
  | 80 => ⟨S_, .i1⟩
  | 81 => ⟨S8x3x1024x32, .i1⟩
  | 82 => ⟨S8x3x1024x32, .f32⟩
  | 83 => ⟨S_, .f32⟩
  | 84 => ⟨S8x3x1024x32, .f32⟩
  | 85 => ⟨S8x3x1024x32, .f32⟩
  | 86 => ⟨S8x8x128, .i32⟩
  | 87 => ⟨S_, .i32⟩
  | 88 => ⟨S8x8x128, .i32⟩
  | 89 => ⟨S8x8x128, .i1⟩
  | 90 => ⟨S_, .i1⟩
  | 91 => ⟨S8x8, .i1⟩
  | 92 => ⟨S8x8x1, .i1⟩
  | 93 => ⟨S8x8x128, .i1⟩
  | 94 => ⟨S8x1x1024x1, .i1⟩
  | 95 => ⟨S8x3x1024x32, .f32⟩
  | 96 => ⟨S_, .f32⟩
  | 97 => ⟨S8x1024x32, .f32⟩
  | 98 => ⟨S8x1x1024x32, .f32⟩
  | 99 => ⟨S8x1x1024x32, .f32⟩
  | 100 => ⟨S_, .f32⟩
  | 101 => ⟨S8x1x1024x32, .f32⟩
  | 102 => ⟨S8x1x1024x32, .f32⟩
  | 103 => ⟨S8x3x1024x32, .f32⟩
  | 104 => ⟨S8x3x1024x32, .f32⟩
  | 105 => ⟨S_, .f32⟩
  | 106 => ⟨S8x1x1024x32, .f32⟩
  | 107 => ⟨S8x1x1024x32, .f32⟩
  | 108 => ⟨S_, .f32⟩
  | 109 => ⟨S8x1x1024x32, .f32⟩
  | 110 => ⟨S8x1x1024x32, .f32⟩
  | 111 => ⟨S_, .f32⟩
  | 112 => ⟨S8x1x1024x32, .f32⟩
  | 113 => ⟨S8x1x1024x32, .f32⟩
  | 114 => ⟨S8x1x1024x32, .f32⟩
  | 115 => ⟨S_, .f32⟩
  | 116 => ⟨S8x1x1024x32, .f32⟩
  | 117 => ⟨S8x1x1024x32, .f32⟩
  | 118 => ⟨S_, .f32⟩
  | 119 => ⟨S8x1x1024x32, .f32⟩
  | 120 => ⟨S8x1x1024x32, .f32⟩
  | 121 => ⟨S8x1x1024x32, .f32⟩
  | 122 => ⟨S_, .f32⟩
  | 123 => ⟨S8x1x1024x32, .f32⟩
  | 124 => ⟨S8x1x1024x32, .f32⟩
  | 125 => ⟨S8x1x1024x32, .f32⟩
  | 126 => ⟨S_, .f32⟩
  | 127 => ⟨S8x1x1024x32, .f32⟩
  | _ => ⟨S8x8192x3, .f32⟩

abbrev hbmTy0_2 (i : Nat) : BufTy := match i % 128 with
  | 0 => ⟨S8x1x1024x32, .f32⟩
  | 1 => ⟨S8x1x1024x32, .f32⟩
  | 2 => ⟨S_, .f32⟩
  | 3 => ⟨S8x1x1024x32, .f32⟩
  | 4 => ⟨S8x1x1024x32, .f32⟩
  | 5 => ⟨S8x1x1024x32, .f32⟩
  | 6 => ⟨S_, .f32⟩
  | 7 => ⟨S8x1x1024x32, .f32⟩
  | 8 => ⟨S8x1x1024x32, .f32⟩
  | 9 => ⟨S8x1x1024x32, .f32⟩
  | 10 => ⟨S_, .f32⟩
  | 11 => ⟨S8x1x1024x32, .f32⟩
  | 12 => ⟨S8x1x1024x32, .f32⟩
  | 13 => ⟨S8x1x1024x32, .i1⟩
  | 14 => ⟨S8x1x1024x32, .f32⟩
  | 15 => ⟨S8x1x1024x32, .f32⟩
  | 16 => ⟨S8x1x1024x32, .f32⟩
  | 17 => ⟨S_, .f32⟩
  | 18 => ⟨S8x1x1024x32, .f32⟩
  | 19 => ⟨S8x1x1024x32, .f32⟩
  | 20 => ⟨S_, .f32⟩
  | 21 => ⟨S8x1x1024x32, .f32⟩
  | 22 => ⟨S8x1x1024x32, .f32⟩
  | 23 => ⟨S8x1x1024x32, .f32⟩
  | 24 => ⟨S_, .f32⟩
  | 25 => ⟨S8x1x1024x32, .f32⟩
  | 26 => ⟨S8x1x1024x32, .f32⟩
  | 27 => ⟨S8x1x1024x32, .f32⟩
  | 28 => ⟨S_, .f32⟩
  | 29 => ⟨S8x1x1024x32, .f32⟩
  | 30 => ⟨S8x1x1024x32, .f32⟩
  | 31 => ⟨S8x1x1024x32, .f32⟩
  | 32 => ⟨S_, .f32⟩
  | 33 => ⟨S8x1x1024x32, .f32⟩
  | 34 => ⟨S8x1x1024x32, .f32⟩
  | 35 => ⟨S8x1x1024x32, .f32⟩
  | 36 => ⟨S_, .f32⟩
  | 37 => ⟨S8x1x1024x32, .f32⟩
  | 38 => ⟨S8x1x1024x32, .f32⟩
  | 39 => ⟨S8x1x1024x32, .f32⟩
  | 40 => ⟨S8x1x1024x32, .i1⟩
  | 41 => ⟨S8x1x1024x32, .f32⟩
  | 42 => ⟨S8x1x1024x32, .f32⟩
  | 43 => ⟨S8x3x1024x32, .f32⟩
  | 44 => ⟨S8x3x1024x32, .f32⟩
  | 45 => ⟨S8x4x1024x32, .f32⟩
  | 46 => ⟨S8x4x1x1024x32, .f32⟩
  | 47 => ⟨S8x4x1x1024x31, .f32⟩
  | 48 => ⟨S8x4x1x1024x1, .f32⟩
  | 49 => ⟨S8x4x1x1024x32, .f32⟩
  | 50 => ⟨S8x4x1x1024x31, .f32⟩
  | 51 => ⟨S8x4x1x1024x1, .f32⟩
  | 52 => ⟨S8x4x1x1024x32, .f32⟩
  | 53 => ⟨S8x4x1x1024x31, .f32⟩
  | 54 => ⟨S8x4x1x1024x1, .f32⟩
  | 55 => ⟨S8x4x1x1024x32, .f32⟩
  | 56 => ⟨S8x4x1x1024x31, .f32⟩
  | 57 => ⟨S8x4x1x1024x1, .f32⟩
  | 58 => ⟨S8x4x1x1024x32, .f32⟩
  | 59 => ⟨S8x4x1x1024x31, .f32⟩
  | 60 => ⟨S8x4x1x1024x1, .f32⟩
  | 61 => ⟨S8x4x1x1024x32, .f32⟩
  | 62 => ⟨S8x4x1x1024x31, .f32⟩
  | 63 => ⟨S8x4x1x1024x1, .f32⟩
  | 64 => ⟨S8x4x1x1024x32, .f32⟩
  | 65 => ⟨S8x4x1x1024x31, .f32⟩
  | 66 => ⟨S8x4x1x1024x1, .f32⟩
  | 67 => ⟨S8x4x1x1024x32, .f32⟩
  | 68 => ⟨S8x4x8x1024x32, .f32⟩
  | 69 => ⟨S8x32x1024x32, .f32⟩
  | _ => ⟨S8x8192x3, .f32⟩

abbrev hbmTy (i : Nat) : BufTy := match i / 128 with
  | 0 => hbmTy0_0 i
  | 1 => hbmTy0_1 i
  | 2 => hbmTy0_2 i
  | _ => ⟨S8x8192x3, .f32⟩

abbrev bufTy : (tb : Table) → Fin (tcTables nBuf tb) → BufTy
  | .hbm, ⟨i, _⟩ => hbmTy i
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_v12 : Ref sig .tc := ⟨.hbm, 21, rfl⟩
abbrev main_values : Ref sig .tc := ⟨.hbm, 22, rfl⟩
abbrev main_indices : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_11 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_12 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_13 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_14 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_15 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_16 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_17 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_cst_18 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_cst_19 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_cst_20 : Ref sig .tc := ⟨.hbm, 180, rfl⟩
abbrev main_v149 : Ref sig .tc := ⟨.hbm, 181, rfl⟩
abbrev main_v150 : Ref sig .tc := ⟨.hbm, 182, rfl⟩
abbrev main_cst_21 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_call6_v0 : Ref sig .tc := ⟨.hbm, 188, rfl⟩
abbrev main_call6_v1_0 : Ref sig .tc := ⟨.hbm, 189, rfl⟩
abbrev main_v155 : Ref sig .tc := ⟨.hbm, 190, rfl⟩
abbrev main_v156 : Ref sig .tc := ⟨.hbm, 191, rfl⟩
abbrev main_call7_c : Ref sig .tc := ⟨.hbm, 192, rfl⟩
abbrev main_call7_v0 : Ref sig .tc := ⟨.hbm, 193, rfl⟩
abbrev main_call7_v1 : Ref sig .tc := ⟨.hbm, 194, rfl⟩
abbrev main_call7_c_0 : Ref sig .tc := ⟨.hbm, 195, rfl⟩
abbrev main_call7_v2 : Ref sig .tc := ⟨.hbm, 196, rfl⟩
abbrev main_call7_v3 : Ref sig .tc := ⟨.hbm, 197, rfl⟩
abbrev main_call7_v4 : Ref sig .tc := ⟨.hbm, 198, rfl⟩
abbrev main_call7_v5 : Ref sig .tc := ⟨.hbm, 199, rfl⟩
abbrev main_call7_c_1 : Ref sig .tc := ⟨.hbm, 200, rfl⟩
abbrev main_call7_c_2 : Ref sig .tc := ⟨.hbm, 201, rfl⟩
abbrev main_call7_v6 : Ref sig .tc := ⟨.hbm, 202, rfl⟩
abbrev main_call7_v7 : Ref sig .tc := ⟨.hbm, 203, rfl⟩
abbrev main_call7_v8 : Ref sig .tc := ⟨.hbm, 204, rfl⟩
abbrev main_call7_v9 : Ref sig .tc := ⟨.hbm, 205, rfl⟩
abbrev main_call7_v10 : Ref sig .tc := ⟨.hbm, 206, rfl⟩
abbrev main_call7_v11 : Ref sig .tc := ⟨.hbm, 207, rfl⟩
abbrev main_call7_c_3 : Ref sig .tc := ⟨.hbm, 208, rfl⟩
abbrev main_call7_v12 : Ref sig .tc := ⟨.hbm, 209, rfl⟩
abbrev main_call7_v13 : Ref sig .tc := ⟨.hbm, 210, rfl⟩
abbrev main_call7_cst : Ref sig .tc := ⟨.hbm, 211, rfl⟩
abbrev main_call7_v14 : Ref sig .tc := ⟨.hbm, 212, rfl⟩
abbrev main_v157 : Ref sig .tc := ⟨.hbm, 213, rfl⟩
abbrev main_v158 : Ref sig .tc := ⟨.hbm, 214, rfl⟩
abbrev main_c_22 : Ref sig .tc := ⟨.hbm, 215, rfl⟩
abbrev main_v159 : Ref sig .tc := ⟨.hbm, 216, rfl⟩
abbrev main_v160 : Ref sig .tc := ⟨.hbm, 217, rfl⟩
abbrev main_c_23 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_cst_24 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_cst_25 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_cst_26 : Ref sig .tc := ⟨.hbm, 233, rfl⟩
abbrev main_v173 : Ref sig .tc := ⟨.hbm, 234, rfl⟩
abbrev main_v174 : Ref sig .tc := ⟨.hbm, 235, rfl⟩
abbrev main_cst_27 : Ref sig .tc := ⟨.hbm, 236, rfl⟩
abbrev main_v175 : Ref sig .tc := ⟨.hbm, 237, rfl⟩
abbrev main_v176 : Ref sig .tc := ⟨.hbm, 238, rfl⟩
abbrev main_cst_28 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_cst_29 : Ref sig .tc := ⟨.hbm, 243, rfl⟩
abbrev main_v180 : Ref sig .tc := ⟨.hbm, 244, rfl⟩
abbrev main_v181 : Ref sig .tc := ⟨.hbm, 245, rfl⟩
abbrev main_cst_30 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_cst_31 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_cst_32 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_cst_33 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_cst_34 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_cst_35 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_cst_36 : Ref sig .tc := ⟨.hbm, 273, rfl⟩
abbrev main_v203 : Ref sig .tc := ⟨.hbm, 274, rfl⟩
abbrev main_v204 : Ref sig .tc := ⟨.hbm, 275, rfl⟩
abbrev main_cst_37 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_cst_38 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_cst_39 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_cst_40 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_cst_41 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩

abbrev nD : Nat := 1
abbrev τ : Topo := Topo.v7x

variable {F : FTy → Type} [FloatOps F]
-- ==== Proof.Loop.lean ====
/- The search loop of the kernel: what one pass over a chunk of 512 points does to the pair of running arrays (the
   coordinates found so far and the counts so far), the passes repeated with the early exit, and the specification of the
   label that carries the loop, met by its body. -/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.WholeRead
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's variants: the naturals, the chunks still to visit. -/
abbrev 𝒱K : Variants := Variants.nat

/-! ## The loop as a function -/

/-- Below 16 the chunk's offsets stay inside both arrays. -/
theorem chk_lt : ∀ j < 16, k0_chk1 (BitVec.ofNat 32 j) := by
  intro j hj
  unfold k0_chk1
  revert j; decide +kernel

/-- Chunk `j` of the transposed points. -/
def xChunk (X : Vec F S1x3x8192 .f32) (j : ℕ) (hj : j < 16) : Vec F S1x3x512 .f32 := fun y =>
  X ((Rect.unit (s := S1x3x8192) (k0_off1 (BitVec.ofNat 32 j)) S1x3x512.size (k0_off1_inb _ (chk_lt j hj))).toLoadRect.idx y)

/-- Chunk `j` of the points in rows. -/
def yChunk (Y : Vec F S1x8192x3 .f32) (j : ℕ) (hj : j < 16) : Vec F S1x512x3 .f32 := fun y =>
  Y ((Rect.unit (s := S1x8192x3) (k0_off2 (BitVec.ofNat 32 j)) S1x512x3.size (k0_off2_inb _ (chk_lt j hj))).toLoadRect.idx y)

/-- The squared radius, as the kernel writes it. -/
abbrev r2K : F .f32 := Scalar.ofBits .f32 0x3D23D70A#32

/-- The running pair after chunk `j`. -/
def step (X : Vec F S1x3x8192 .f32) (Y : Vec F S1x8192x3 .f32) (qx qy qz : FVec F S128x1 .f32) (j : ℕ) (hj : j < 16)
    (s : FVec F S4224x3 .f32 × FVec F S128x1 .f32) : FVec F S4224x3 .f32 × FVec F S128x1 .f32 :=
  (k0_pay4 s.1 (k0_pay107 (yChunk Y j hj)) (k0_pay110 qx qy qz r2K k0_pay11 s.2 (xChunk X j hj)) (k0_pay111 (F := F) k0_pay10),
   k0_pay5 s.2 (k0_pay109 qx qy qz r2K k0_pay11 (xChunk X j hj)))

/-- Some query of the tile has fewer than 33 neighbours so far. -/
def more (tot : FVec F S128x1 .f32) : Prop := Scalar.cmpf .olt (k0_pay3 tot) (Scalar.ofBits .f32 0x42040000#32 : F .f32) = 1#1

open Classical in
/-- At most `k` passes from chunk `j` on, stopping when no query needs more. -/
def loopFrom (X : Vec F S1x3x8192 .f32) (Y : Vec F S1x8192x3 .f32) (qx qy qz : FVec F S128x1 .f32) :
    ℕ → ℕ → FVec F S4224x3 .f32 × FVec F S128x1 .f32 → FVec F S4224x3 .f32 × FVec F S128x1 .f32
  | 0, _, s => s
  | k + 1, j, s => if h : j < 16 ∧ more s.2 then loopFrom X Y qx qy qz k (j + 1) (step X Y qx qy qz j h.1 s) else s

/-! ## The label -/

section Label

variable (c : Dev nD) (i : grid0.Coords)
  (arg2 : Memref sig .tc .vmem S1x3x8192 .f32) (harg2 : arg2.IsWhole)
  (arg3 : Memref sig .tc .vmem S1x8192x3 .f32) (harg3 : arg3.IsWhole)
  (X : Vec F S1x3x8192 .f32) (Y : Vec F S1x8192x3 .f32) (qx qy qz : FVec F S128x1 .f32)

/-- The two staging buffers the loop reads, held at the contents that read `X` and `Y`. -/
def held : sProp 𝕄 :=
  iprop((arg2.view.loc (c : Thread nD τ) ↦[arg2.view.set]{fullShare} (harg2.unread X))
    ∗ (arg3.view.loc (c : Thread nD τ) ↦[arg3.view.set]{fullShare} (harg3.unread Y)))

/-- The label with `k` passes to go from chunk `j` and the pair `s`: it hands the buffers back and returns the loop's pair. -/
def spec (k j : ℕ) (s : FVec F S4224x3 .f32 × FVec F S128x1 .f32) :
    sWPT 𝕄 (BitVec 32 × FVec F S4224x3 .f32 × FVec F S128x1 .f32) := do
  sWPT.consume (held c arg2 harg2 arg3 harg3 X Y)
  let r ← sWPT.arbitrary
  sWPT.assume (r.2 = loopFrom X Y qx qy qz k j s)
  sWPT.produce (held c arg2 harg2 arg3 harg3 X Y)
  pure r

theorem spec_apply (k j : ℕ) (s : FVec F S4224x3 .f32 × FVec F S128x1 .f32)
    (K : BitVec 32 × FVec F S4224x3 .f32 × FVec F S128x1 .f32 → sProp 𝕄) :
    spec c arg2 harg2 arg3 harg3 X Y qx qy qz k j s K
      = iprop(held c arg2 harg2 arg3 harg3 X Y ∗ ∀ r : BitVec 32 × FVec F S4224x3 .f32 × FVec F S128x1 .f32,
          ⌜r.2 = loopFrom X Y qx qy qz k j s⌝ -∗ (held c arg2 harg2 arg3 harg3 X Y -∗ K r)) := rfl

theorem slt16 : ∀ j < 16, Scalar.cmpi .slt (BitVec.ofNat 32 j) 16#32 = 1#1 := by decide
theorem addi1 : ∀ j < 16, Scalar.addi (BitVec.ofNat 32 j) 1#32 = BitVec.ofNat 32 (j + 1) := by decide
theorem andi_one (b : BitVec 1) : Scalar.andi 1#1 b = b := by revert b; decide

theorem spec_le (E : Set ℕ) :
    ∀ k j, j + k = 16 → ∀ s K, spec c arg2 harg2 arg3 harg3 X Y qx qy qz k j s K
      ⊢ wp frame (wpE (defs₀ (F := F)) 𝒱K (c : Thread nD τ) (some k)) E
          (defs₀ (F := F) .tc 1 ⟨i, arg2, harg2, arg3, harg3, qx, qy, qz, r2K, k0_pay11 (F := F), k0_pay10 (F := F), BitVec.ofNat 32 j, s.1, s.2⟩) K := by
  intro k
  induction k with
  | zero =>
    intro j hj s K
    obtain rfl : j = 16 := by omega
    rw [spec_apply]
    show _ ⊢ wp frame (wpE (defs₀ (F := F)) 𝒱K (c : Thread nD τ) (some 0)) E
      (cc0_while1 i arg2 harg2 arg3 harg3 qx qy qz r2K (k0_pay11 (F := F)) (k0_pay10 (F := F)) (BitVec.ofNat 32 16) s.1 s.2) K
    simp only [cc0_while1_eq_skeleton]; unfold cc0_while1_skel
    have htest : ∀ b, ¬ Scalar.andi (Scalar.cmpi .slt (BitVec.ofNat 32 16) 16#32) b = 1#1 := by decide
    simp only [htest, ↓reduceIte, Prog.pure_eq_ret]
    iintro ⟨H, Hk⟩
    rw [wp_ret]; imodintro
    iapply Hk
    · ipureintro; rfl
    · iexact H
  | succ k ih =>
    intro j hj s K
    have hj16 : j < 16 := by omega
    rw [spec_apply]
    show _ ⊢ wp frame (wpE (defs₀ (F := F)) 𝒱K (c : Thread nD τ) (some (k + 1))) E
      (cc0_while1 i arg2 harg2 arg3 harg3 qx qy qz r2K (k0_pay11 (F := F)) (k0_pay10 (F := F)) (BitVec.ofNat 32 j) s.1 s.2) K
    simp only [cc0_while1_eq_skeleton]; unfold cc0_while1_skel
    simp only [slt16 j hj16, andi_one]
    by_cases hm : more s.2
    · have hm' := hm
      unfold more at hm'
      simp only [hm', ↓reduceIte, k0_part12_eq_skeleton]; unfold k0_part12_skel
      simp only [Prog.lift, Prog.bind_op, Prog.bind_ret, Prog.pure_eq_ret]
      unfold held
      iintro ⟨⟨H2, H3⟩, Hk⟩
      iapply (wp_assume 𝒱K (c : Thread nD τ) (some (k + 1)) E (chk_lt j hj16))
      iapply (wp_load 𝒱K (c : Thread nD τ) (some (k + 1)) E (m := arg2) (View.setOn_subset_set _ _)) $$ H2; iintro H2
      iapply (wp_load 𝒱K (c : Thread nD τ) (some (k + 1)) E (m := arg3) (View.setOn_subset_set _ _)) $$ H3; iintro H3
      rw [addi1 j hj16]
      have e2 : View.readAt (Elt F) arg2.view (Rect.unit (s := S1x3x8192) (k0_off1 (BitVec.ofNat 32 j)) S1x3x512.size (k0_off1_inb _ (chk_lt j hj16))).toLoadRect (harg2.unread X) = xChunk X j hj16 :=
        funext fun y => harg2.readAt_unread X _ y
      have e3 : View.readAt (Elt F) arg3.view (Rect.unit (s := S1x8192x3) (k0_off2 (BitVec.ofNat 32 j)) S1x512x3.size (k0_off2_inb _ (chk_lt j hj16))).toLoadRect (harg3.unread Y) = yChunk Y j hj16 :=
        funext fun y => harg3.readAt_unread Y _ y
      have es : loopFrom X Y qx qy qz (k + 1) j s = loopFrom X Y qx qy qz k (j + 1) (step X Y qx qy qz j hj16 s) := by
        rw [loopFrom, dif_pos ⟨hj16, hm⟩]
      rw [e2, e3]
      iapply (wp_call_spec 𝒱K (c : Thread nD τ) (some (k + 1)) E (spec c arg2 harg2 arg3 harg3 X Y qx qy qz k (j + 1) (step X Y qx qy qz j hj16 s)) k
        (fun u hu => by cases hu; exact Nat.lt_succ_self k)
        (ih (j + 1) (by omega) (step X Y qx qy qz j hj16 s)))
      rw [spec_apply]; unfold held
      isplitl [H2 H3]
      · isplitl [H2]; · iexact H2
        iexact H3
      iintro %r %hr ⟨H2, H3⟩
      rw [wp_ret]; imodintro
      iapply Hk
      · ipureintro; rw [hr, es]
      · isplitl [H2]; · iexact H2
        iexact H3
    · have hm' := hm
      unfold more at hm'
      simp only [hm', ↓reduceIte, Prog.pure_eq_ret]
      iintro ⟨H, Hk⟩
      rw [wp_ret]; imodintro
      iapply Hk
      · ipureintro; rw [loopFrom, dif_neg fun h => hm h.2]
      · iexact H

end Label

end Cert.Proof.Run

end
-- ==== Proof.Body.lean ====
/- The kernel body run once on whole staging memrefs, over any values: the loads of the four inputs, the search loop through
   its specification, the pure middle of the body as named functions of the blocks, and the 32 stores. -/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.WholeRead
public import Idealize.ShloMosaic.Lib.Ring
public import Idealize.ShloMosaic.Lib.Tactic
public import Idealize.ShloMosaic.Lib.WordCmp
public import Idealize.ShloMosaic.Lib.Claim
public import proofs.«01_k».proof.Proof.Loop

@[expose] public section

set_option maxRecDepth 16384

noncomputable section

namespace Cert.Proof.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks as the body loads them -/

/-- The whole block of transposed points. -/
def ld2 (X : Vec F S1x3x8192 .f32) : Vec F S1x3x8192 .f32 := fun y =>
  X ((Rect.unit (s := S1x3x8192) ![0, 0, 0] S1x3x8192.size inb_S1x3x8192_S1x3x8192_0_0_0).toLoadRect.idx y)
/-- The three columns of the block of queries. -/
def ldQ0 (Q : Vec F S1x128x3 .f32) : Vec F S1x128x1 .f32 := fun y =>
  Q ((Rect.unit (s := S1x128x3) ![0, 0, 0] S1x128x1.size inb_S1x128x3_S1x128x1_0_0_0).toLoadRect.idx y)
def ldQ1 (Q : Vec F S1x128x3 .f32) : Vec F S1x128x1 .f32 := fun y =>
  Q ((Rect.unit (s := S1x128x3) ![0, 0, 1] S1x128x1.size inb_S1x128x3_S1x128x1_0_0_1).toLoadRect.idx y)
def ldQ2 (Q : Vec F S1x128x3 .f32) : Vec F S1x128x1 .f32 := fun y =>
  Q ((Rect.unit (s := S1x128x3) ![0, 0, 2] S1x128x1.size inb_S1x128x3_S1x128x1_0_0_2).toLoadRect.idx y)
/-- The whole block of random angles. -/
def ldZ (Z : Vec F S1x128x32 .f32) : Vec F S1x128x32 .f32 := fun y =>
  Z ((Rect.unit (s := S1x128x32) ![0, 0, 0] S1x128x32.size inb_S1x128x32_S1x128x32_0_0_0).toLoadRect.idx y)

/-- The loop's result from the blocks. -/
def found (X : Vec F S1x3x8192 .f32) (Y : Vec F S1x8192x3 .f32) (Q : Vec F S1x128x3 .f32) : FVec F S4224x3 .f32 × FVec F S128x1 .f32 :=
  loopFrom X Y (k0_pay7 (ldQ0 Q)) (k0_pay8 (ldQ1 Q)) (k0_pay9 (ldQ2 Q)) 16 0 (k0_pay12 (F := F), k0_pay13 (F := F))

/-! ## The pure parts of the body -/

/-- The relative coordinates and the query's own directions. -/
structure Mid2 (F : FTy → Type) where
  (v64 v67 v70 : FVec F S128x32 .f32)
  (v79 v82 v85 v91 v94 : FVec F S128x1 .f32)

def mid2 (v1 : FVec F S3x8192 .f32) (v3 v5 v7 : FVec F S128x1 .f32) (v22 v25 v28 : FVec F S128x33 .f32)
    (v30 : FVec F S128x1 .f32) (v32 : IVec S128x1 1) (v37 v38 : FVec F S128x1 .f32) (v39 : FVec F S1x1 .f32) : Mid2 F :=
  ⟨k0_pay24 v3 v22 v30 v37, k0_pay25 v5 v25 v30 v32 v38 v39, k0_pay26 v1 v7 v28 v30 v32, k0_pay28 v3 v5 v7, k0_pay29 v3 v5 v7,
    k0_pay30 v3 v5 v7, k0_pay31 v3 v5 v7, k0_pay32 v3 v5 v7⟩

/-- The small constant the norms are shifted by. -/
abbrev epsK : F .f32 := Scalar.ofBits .f32 0x358637BD#32

structure Mid3 (F : FTy → Type) where
  (v97 v100 v133 v136 v139 : FVec F S128x1 .f32)
  (v141 v143 : FVec F S128x32 .f32)

def mid3 (a : Mid2 F) : Mid3 F :=
  ⟨k0_pay33 a.v82 a.v91 epsK, k0_pay34 a.v85 a.v91, k0_pay40 a.v82 a.v85 a.v91 a.v94 epsK, k0_pay41 a.v82 a.v85 a.v91 a.v94 epsK,
    k0_pay42 a.v82 a.v85 a.v91 a.v94 epsK, k0_pay43 a.v64 a.v94, k0_pay44 a.v67 a.v82 a.v91 epsK⟩

structure Mid4 (F : FTy → Type) where
  (v167 v168 v169 : FVec F S128x32 .f32)
  (v176 : IVec S128x32 1)
  (v199 v200 : FVec F S128x32 .f32)

def mid4 (a : Mid2 F) (b : Mid3 F) : Mid4 F :=
  ⟨k0_pay50 a.v64 a.v67 a.v70 a.v94 b.v97 b.v100 b.v141 b.v143, k0_pay51 a.v64 a.v67 a.v70 a.v94 b.v97 b.v100 b.v141 b.v143,
    k0_pay52 a.v64 a.v67 a.v70 a.v94 b.v97 b.v100 b.v141 b.v143, k0_pay53 a.v64 a.v67 a.v70 a.v94 b.v97 b.v100 b.v141 b.v143,
    k0_pay54 a.v64 a.v67 a.v70 a.v79 a.v82 a.v85 a.v94 b.v97 b.v100 b.v133 b.v136 b.v139 b.v141 b.v143, k0_pay55 b.v133⟩

/-- The sorted coordinates and the angle argument. -/
structure Mid5 (F : FTy → Type) where
  (v240 v244 v248 v253 : FVec F S128x32 .f32)

def mid5 (a : Mid2 F) (b : Mid3 F) (d : Mid4 F) (z : Vec F S1x128x32 .f32) : Mid5 F :=
  ⟨k0_pay57 a.v64 b.v136 b.v139 d.v167 d.v168 d.v169 d.v176 d.v199 d.v200 z, k0_pay58 a.v67 b.v136 b.v139 d.v167 d.v168 d.v169 d.v176 d.v199 d.v200 z,
    k0_pay59 a.v70 b.v136 b.v139 d.v167 d.v168 d.v169 d.v176 d.v199 d.v200 z,
    k0_pay60 a.v64 a.v67 a.v70 b.v136 b.v139 d.v167 d.v168 d.v169 d.v176 d.v199 d.v200 z⟩

section Blocks

variable (X : Vec F S1x3x8192 .f32) (Y : Vec F S1x8192x3 .f32) (Q : Vec F S1x128x3 .f32) (Z : Vec F S1x128x32 .f32)

def tile2 : Mid2 F :=
  mid2 (k0_pay6 (ld2 X)) (k0_pay7 (ldQ0 Q)) (k0_pay8 (ldQ1 Q)) (k0_pay9 (ldQ2 Q)) (k0_pay15 (found X Y Q).1) (k0_pay16 (found X Y Q).1)
    (k0_pay17 (found X Y Q).1) (k0_pay18 (found X Y Q).2) (k0_pay19 (found X Y Q).2) (k0_pay20 (ld2 X) (found X Y Q).1 (found X Y Q).2)
    (k0_pay21 (found X Y Q).1) (k0_pay22 (ld2 X))
def tile3 : Mid3 F := mid3 (tile2 X Y Q)
def tile4 : Mid4 F := mid4 (tile2 X Y Q) (tile3 X Y Q)
def tile5 : Mid5 F := mid5 (tile2 X Y Q) (tile3 X Y Q) (tile4 X Y Q) (ldZ Z)

end Blocks

/-! ## The end of the body: the trigonometry's choice and the stores -/

/-- Every query of the tile has a neighbour, as the kernel tests it. -/
def allHave (tot : FVec F S128x1 .f32) : BitVec 1 :=
  Scalar.cmpi .ne (Scalar.extui (Scalar.cmpf .ogt (k0_pay63 tot) (Scalar.ofBits .f32 0x00000000#32 : F .f32)) : BitVec 32) 0#32

/-- The cosines and the sines: the polynomials when every query of the tile has a neighbour. -/
def cosT (tot : FVec F S128x1 .f32) (th : FVec F S128x32 .f32) : FVec F S128x32 .f32 := if allHave tot = 1#1 then k0_pay65 th else k0_pay67 th
def sinT (tot : FVec F S128x1 .f32) (th : FVec F S128x32 .f32) : FVec F S128x32 .f32 := if allHave tot = 1#1 then k0_pay66 th else k0_pay68 th

/-- The sixth part once the cosines and sines are chosen: the first stores. -/
def stores6 (arg6 : Memref sig .tc .vmem S1x32x128x32 .f32) (v240 v244 v248 v253 ct st : FVec F S128x32 .f32) :
    Prog (TpuEff nD τ sig (Elt F) (Λ₀ F) .tc) (Σ' (v268_0 : FVec F S128x32 .f32) (v274 : FVec F S128x32 .f32) (v276 : FVec F S128x32 .f32) (v278 : FVec F S128x32 .f32) (v290 : FVec F S128x32 .f32), Vec F S1x1x128x32 .f32) := do
  let v279 : Vec F S1x1x128x32 .f32 ← Prog.lift (.load arg6 (Rect.unit (s := S1x32x128x32) ![0, 0, 0, 0] S1x1x128x32.size inb_S1x32x128x32_S1x1x128x32_0_0_0_0).toLoadRect (View.loadsAt_vmem h_S1x1x128x32))
  Prog.lift (.store arg6 (Rect.unit (s := S1x32x128x32) ![0, 0, 0, 0] S1x1x128x32.size inb_S1x32x128x32_S1x1x128x32_0_0_0_0) (k0_pay73 ct) Finset.univ (View.stores_vmem_bits_univ h_S1x1x128x32 rfl) (.inl rfl))
  let v285 : Vec F S1x1x128x32 .f32 ← Prog.lift (.load arg6 (Rect.unit (s := S1x32x128x32) ![0, 1, 0, 0] S1x1x128x32.size inb_S1x32x128x32_S1x1x128x32_0_1_0_0).toLoadRect (View.loadsAt_vmem h_S1x1x128x32))
  Prog.lift (.store arg6 (Rect.unit (s := S1x32x128x32) ![0, 1, 0, 0] S1x1x128x32.size inb_S1x32x128x32_S1x1x128x32_0_1_0_0) (k0_pay74 ct) Finset.univ (View.stores_vmem_bits_univ h_S1x1x128x32 rfl) (.inl rfl))
  let v291 : Vec F S1x1x128x32 .f32 ← Prog.lift (.load arg6 (Rect.unit (s := S1x32x128x32) ![0, 2, 0, 0] S1x1x128x32.size inb_S1x32x128x32_S1x1x128x32_0_2_0_0).toLoadRect (View.loadsAt_vmem h_S1x1x128x32))
  pure ⟨ct, k0_pay70 v240 v253 st, k0_pay71 v244 v253 st, k0_pay72 v248 v253 st, k0_pay75 ct, v291⟩

theorem part6_eq (i : grid0.Coords) (arg2 : Memref sig .tc .vmem S1x3x8192 .f32) (harg2 : arg2.IsWhole) (arg3 : Memref sig .tc .vmem S1x8192x3 .f32) (harg3 : arg3.IsWhole) (arg4 : Memref sig .tc .vmem S1x128x3 .f32) (harg4 : arg4.IsWhole) (arg5 : Memref sig .tc .vmem S1x128x32 .f32) (harg5 : arg5.IsWhole) (arg6 : Memref sig .tc .vmem S1x32x128x32 .f32) (harg6 : arg6.IsWhole)
    (v18_2 : FVec F S128x1 .f32) (v240 v244 v248 v253 : FVec F S128x32 .f32) :
    k0_part6 (F := F) i arg2 harg2 arg3 harg3 arg4 harg4 arg5 harg5 arg6 harg6 v18_2 v240 v244 v248 v253
      = stores6 arg6 v240 v244 v248 v253 (cosT v18_2 v253) (sinT v18_2 v253) := by
  rw [k0_part6_eq_skeleton]
  unfold k0_part6_skel cosT sinT allHave
  dsimp only
  split <;> rfl

/-- The body from its sixth part on, the cosines and sines chosen. -/
def tailProg (i : grid0.Coords) (arg2 : Memref sig .tc .vmem S1x3x8192 .f32) (harg2 : arg2.IsWhole) (arg3 : Memref sig .tc .vmem S1x8192x3 .f32) (harg3 : arg3.IsWhole) (arg4 : Memref sig .tc .vmem S1x128x3 .f32) (harg4 : arg4.IsWhole) (arg5 : Memref sig .tc .vmem S1x128x32 .f32) (harg5 : arg5.IsWhole) (arg6 : Memref sig .tc .vmem S1x32x128x32 .f32) (harg6 : arg6.IsWhole)
    (v240 v244 v248 v253 ct st : FVec F S128x32 .f32) : Prog (TpuEff nD τ sig (Elt F) (Λ₀ F) .tc) PUnit := do
  let ⟨v268_0, v274, v276, v278, v290, v291⟩ : Σ' (v268_0 : FVec F S128x32 .f32) (v274 : FVec F S128x32 .f32) (v276 : FVec F S128x32 .f32) (v278 : FVec F S128x32 .f32) (v290 : FVec F S128x32 .f32), Vec F S1x1x128x32 .f32 ← stores6 arg6 v240 v244 v248 v253 ct st
  k0_part7 i arg2 harg2 arg3 harg3 arg4 harg4 arg5 harg5 arg6 harg6 v268_0 v290 v291
  let v356 : FVec F S1x1x128x32 .f32 ← k0_part8 i arg2 harg2 arg3 harg3 arg4 harg4 arg5 harg5 arg6 harg6 v274
  let v386 : FVec F S128x32 .f32 ← k0_part9 i arg2 harg2 arg3 harg3 arg4 harg4 arg5 harg5 arg6 harg6 v274 v276 v356
  let v419 : FVec F S128x32 .f32 ← k0_part10 i arg2 harg2 arg3 harg3 arg4 harg4 arg5 harg5 arg6 harg6 v276 v278 v386
  let v449 : FVec F S128x32 .f32 ← k0_part11 i arg2 harg2 arg3 harg3 arg4 harg4 arg5 harg5 arg6 harg6 v278 v419
  Prog.lift (.store arg6 (Rect.unit (s := S1x32x128x32) ![0, 30, 0, 0] S1x1x128x32.size inb_S1x32x128x32_S1x1x128x32_0_30_0_0) (k0_pay1 v449) Finset.univ (View.stores_vmem_bits_univ h_S1x1x128x32 rfl) (.inl rfl))
  let v456 : Vec F S1x1x128x32 .f32 ← Prog.lift (.load arg6 (Rect.unit (s := S1x32x128x32) ![0, 31, 0, 0] S1x1x128x32.size inb_S1x32x128x32_S1x1x128x32_0_31_0_0).toLoadRect (View.loadsAt_vmem h_S1x1x128x32))
  Prog.lift (.store arg6 (Rect.unit (s := S1x32x128x32) ![0, 31, 0, 0] S1x1x128x32.size inb_S1x32x128x32_S1x1x128x32_0_31_0_0) (k0_pay2 v278) Finset.univ (View.stores_vmem_bits_univ h_S1x1x128x32 rfl) (.inl rfl))
  pure ⟨⟩

/-- The stores, last first: each channel of the block with the value stored there. -/
def pieces (ct q1 q2 q3 : FVec F S128x32 .f32) : List (View.Piece (Elt F) S1x32x128x32 .f32) :=
  [⟨Rect.unit (s := S1x32x128x32) ![0, 31, 0, 0] S1x1x128x32.size inb_S1x32x128x32_S1x1x128x32_0_31_0_0, k0_pay2 q3⟩,
    ⟨Rect.unit (s := S1x32x128x32) ![0, 30, 0, 0] S1x1x128x32.size inb_S1x32x128x32_S1x1x128x32_0_30_0_0, k0_pay1 (k0_pay106 q3)⟩,
    ⟨Rect.unit (s := S1x32x128x32) ![0, 29, 0, 0] S1x1x128x32.size inb_S1x32x128x32_S1x1x128x32_0_29_0_0, k0_pay105 q3⟩,
    ⟨Rect.unit (s := S1x32x128x32) ![0, 28, 0, 0] S1x1x128x32.size inb_S1x32x128x32_S1x1x128x32_0_28_0_0, k0_pay104 q3⟩,
    ⟨Rect.unit (s := S1x32x128x32) ![0, 27, 0, 0] S1x1x128x32.size inb_S1x32x128x32_S1x1x128x32_0_27_0_0, k0_pay103 q3⟩,
    ⟨Rect.unit (s := S1x32x128x32) ![0, 26, 0, 0] S1x1x128x32.size inb_S1x32x128x32_S1x1x128x32_0_26_0_0, k0_pay102 q3⟩,
    ⟨Rect.unit (s := S1x32x128x32) ![0, 25, 0, 0] S1x1x128x32.size inb_S1x32x128x32_S1x1x128x32_0_25_0_0, k0_pay101 (k0_pay100 q3)⟩,
    ⟨Rect.unit (s := S1x32x128x32) ![0, 24, 0, 0] S1x1x128x32.size inb_S1x32x128x32_S1x1x128x32_0_24_0_0, k0_pay99 q3⟩,
    ⟨Rect.unit (s := S1x32x128x32) ![0, 23, 0, 0] S1x1x128x32.size inb_S1x32x128x32_S1x1x128x32_0_23_0_0, k0_pay98 q2⟩,
    ⟨Rect.unit (s := S1x32x128x32) ![0, 22, 0, 0] S1x1x128x32.size inb_S1x32x128x32_S1x1x128x32_0_22_0_0, k0_pay97 q2⟩,
    ⟨Rect.unit (s := S1x32x128x32) ![0, 21, 0, 0] S1x1x128x32.size inb_S1x32x128x32_S1x1x128x32_0_21_0_0, k0_pay96 q2⟩,
    ⟨Rect.unit (s := S1x32x128x32) ![0, 20, 0, 0] S1x1x128x32.size inb_S1x32x128x32_S1x1x128x32_0_20_0_0, k0_pay95 q2⟩,
    ⟨Rect.unit (s := S1x32x128x32) ![0, 19, 0, 0] S1x1x128x32.size inb_S1x32x128x32_S1x1x128x32_0_19_0_0, k0_pay94 (k0_pay93 q2)⟩,
    ⟨Rect.unit (s := S1x32x128x32) ![0, 18, 0, 0] S1x1x128x32.size inb_S1x32x128x32_S1x1x128x32_0_18_0_0, k0_pay92 q2⟩,
    ⟨Rect.unit (s := S1x32x128x32) ![0, 17, 0, 0] S1x1x128x32.size inb_S1x32x128x32_S1x1x128x32_0_17_0_0, k0_pay91 q2⟩,
    ⟨Rect.unit (s := S1x32x128x32) ![0, 16, 0, 0] S1x1x128x32.size inb_S1x32x128x32_S1x1x128x32_0_16_0_0, k0_pay90 q2⟩,
    ⟨Rect.unit (s := S1x32x128x32) ![0, 15, 0, 0] S1x1x128x32.size inb_S1x32x128x32_S1x1x128x32_0_15_0_0, k0_pay89 q1⟩,
    ⟨Rect.unit (s := S1x32x128x32) ![0, 14, 0, 0] S1x1x128x32.size inb_S1x32x128x32_S1x1x128x32_0_14_0_0, k0_pay88 q1⟩,
    ⟨Rect.unit (s := S1x32x128x32) ![0, 13, 0, 0] S1x1x128x32.size inb_S1x32x128x32_S1x1x128x32_0_13_0_0, k0_pay87 q1⟩,
    ⟨Rect.unit (s := S1x32x128x32) ![0, 12, 0, 0] S1x1x128x32.size inb_S1x32x128x32_S1x1x128x32_0_12_0_0, k0_pay86 q1⟩,
    ⟨Rect.unit (s := S1x32x128x32) ![0, 11, 0, 0] S1x1x128x32.size inb_S1x32x128x32_S1x1x128x32_0_11_0_0, k0_pay85 q1⟩,
    ⟨Rect.unit (s := S1x32x128x32) ![0, 10, 0, 0] S1x1x128x32.size inb_S1x32x128x32_S1x1x128x32_0_10_0_0, k0_pay84 q1⟩,
    ⟨Rect.unit (s := S1x32x128x32) ![0, 9, 0, 0] S1x1x128x32.size inb_S1x32x128x32_S1x1x128x32_0_9_0_0, k0_pay83 q1⟩,
    ⟨Rect.unit (s := S1x32x128x32) ![0, 8, 0, 0] S1x1x128x32.size inb_S1x32x128x32_S1x1x128x32_0_8_0_0, k0_pay82 q1⟩,
    ⟨Rect.unit (s := S1x32x128x32) ![0, 7, 0, 0] S1x1x128x32.size inb_S1x32x128x32_S1x1x128x32_0_7_0_0, k0_pay81 ct⟩,
    ⟨Rect.unit (s := S1x32x128x32) ![0, 6, 0, 0] S1x1x128x32.size inb_S1x32x128x32_S1x1x128x32_0_6_0_0, k0_pay80 ct⟩,
    ⟨Rect.unit (s := S1x32x128x32) ![0, 5, 0, 0] S1x1x128x32.size inb_S1x32x128x32_S1x1x128x32_0_5_0_0, k0_pay79 ct⟩,
    ⟨Rect.unit (s := S1x32x128x32) ![0, 4, 0, 0] S1x1x128x32.size inb_S1x32x128x32_S1x1x128x32_0_4_0_0, k0_pay78 ct⟩,
    ⟨Rect.unit (s := S1x32x128x32) ![0, 3, 0, 0] S1x1x128x32.size inb_S1x32x128x32_S1x1x128x32_0_3_0_0, k0_pay77 ct⟩,
    ⟨Rect.unit (s := S1x32x128x32) ![0, 2, 0, 0] S1x1x128x32.size inb_S1x32x128x32_S1x1x128x32_0_2_0_0, k0_pay76 (k0_pay75 ct)⟩,
    ⟨Rect.unit (s := S1x32x128x32) ![0, 1, 0, 0] S1x1x128x32.size inb_S1x32x128x32_S1x1x128x32_0_1_0_0, k0_pay74 ct⟩,
    ⟨Rect.unit (s := S1x32x128x32) ![0, 0, 0, 0] S1x1x128x32.size inb_S1x32x128x32_S1x1x128x32_0_0_0_0, k0_pay73 ct⟩]

set_option maxHeartbeats 400000 in
/-- The end of the body runs and leaves the output's staging memref with the pieces written. -/
theorem tailRun (c : Dev nD) (i : grid0.Coords) (arg2 : Memref sig .tc .vmem S1x3x8192 .f32) (harg2 : arg2.IsWhole) (arg3 : Memref sig .tc .vmem S1x8192x3 .f32) (harg3 : arg3.IsWhole) (arg4 : Memref sig .tc .vmem S1x128x3 .f32) (harg4 : arg4.IsWhole) (arg5 : Memref sig .tc .vmem S1x128x32 .f32) (harg5 : arg5.IsWhole) (arg6 : Memref sig .tc .vmem S1x32x128x32 .f32) (harg6 : arg6.IsWhole)
    (v240 v244 v248 v253 ct st : FVec F S128x32 .f32)
    (E : Set ℕ) (K : PUnit → sProp 𝕄) :
        iprop((∃ d, owns (c : Thread nD τ) arg6 fullShare d)
            ∗ (iprop(∃ f, arg6.view.loc (c : Thread nD τ) ↦[arg6.view.set]{fullShare} arg6.view.writes (Elt F) f (pieces ct (k0_pay70 v240 v253 st) (k0_pay71 v244 v253 st) (k0_pay72 v248 v253 st))) -∗ K ⟨⟩))
          ⊢ wp frame (wpE (defs₀ (F := F)) 𝒱K (c : Thread nD τ) none) E (tailProg i arg2 harg2 arg3 harg3 arg4 harg4 arg5 harg5 arg6 harg6 v240 v244 v248 v253 ct st) K := by
  unfold tailProg
  simp only [k0_part7_eq_skeleton, k0_part8_eq_skeleton, k0_part9_eq_skeleton, k0_part10_eq_skeleton, k0_part11_eq_skeleton]
  unfold stores6
  unfold owns
  iintro ⟨⟨%d3, %f3, -, H3⟩, Hk⟩
  sl_exec
  sl_step
  iapply Hk
  iexists f3; unfold pieces; iexact H3

end Cert.Proof.Run

end
-- ==== Proof.BodyRun.lean ====
/- The frame of the kernel over any values: the body of the pipeline on whole staging memrefs, the pipeline's proof data, the
   launch, and what the arrays hold when it ends. -/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.WholeRead
public import Idealize.ShloMosaic.Lib.Ring
public import Idealize.ShloMosaic.Lib.Tactic
public import Idealize.ShloMosaic.Lib.WordCmp
public import Idealize.ShloMosaic.Lib.Claim
public import proofs.«01_k».proof.Proof.Body

@[expose] public section

set_option maxRecDepth 16384

noncomputable section

namespace Cert.Proof.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on whole staging memrefs -/

section Blocks

variable (X : Vec F S1x3x8192 .f32) (Y : Vec F S1x8192x3 .f32) (Q : Vec F S1x128x3 .f32) (Z : Vec F S1x128x32 .f32)

/-- The tile's cosines and sines of the half angles. -/
def tileCos : FVec F S128x32 .f32 := cosT (found X Y Q).2 (tile5 X Y Q Z).v253
def tileSin : FVec F S128x32 .f32 := sinT (found X Y Q).2 (tile5 X Y Q Z).v253

/-- What the body stores, from the blocks. -/
def tilePieces : List (View.Piece (Elt F) S1x32x128x32 .f32) :=
  pieces (tileCos X Y Q Z) (k0_pay70 (tile5 X Y Q Z).v240 (tile5 X Y Q Z).v253 (tileSin X Y Q Z))
    (k0_pay71 (tile5 X Y Q Z).v244 (tile5 X Y Q Z).v253 (tileSin X Y Q Z)) (k0_pay72 (tile5 X Y Q Z).v248 (tile5 X Y Q Z).v253 (tileSin X Y Q Z))

end Blocks

theorem part2_eq (i : grid0.Coords) (arg2 : Memref sig .tc .vmem S1x3x8192 .f32) (harg2 : arg2.IsWhole) (arg3 : Memref sig .tc .vmem S1x8192x3 .f32) (harg3 : arg3.IsWhole) (arg4 : Memref sig .tc .vmem S1x128x3 .f32) (harg4 : arg4.IsWhole) (arg5 : Memref sig .tc .vmem S1x128x32 .f32) (harg5 : arg5.IsWhole) (arg6 : Memref sig .tc .vmem S1x32x128x32 .f32) (harg6 : arg6.IsWhole)
    (v1 : FVec F S3x8192 .f32) (v3 v5 v7 : FVec F S128x1 .f32) (v22 v25 v28 : FVec F S128x33 .f32)
    (v30 : FVec F S128x1 .f32) (v32 : IVec S128x1 1) (v37 v38 : FVec F S128x1 .f32) (v39 : FVec F S1x1 .f32) :
    k0_part2 (F := F) i arg2 harg2 arg3 harg3 arg4 harg4 arg5 harg5 arg6 harg6 v1 v3 v5 v7 v22 v25 v28 v30 v32 v37 v38 v39
      = (let a := mid2 v1 v3 v5 v7 v22 v25 v28 v30 v32 v37 v38 v39
         Prog.ret ⟨a.v64, a.v67, a.v70, a.v79, a.v82, a.v85, a.v91, a.v94, epsK⟩) := rfl

theorem part3_eq (i : grid0.Coords) (arg2 : Memref sig .tc .vmem S1x3x8192 .f32) (harg2 : arg2.IsWhole) (arg3 : Memref sig .tc .vmem S1x8192x3 .f32) (harg3 : arg3.IsWhole) (arg4 : Memref sig .tc .vmem S1x128x3 .f32) (harg4 : arg4.IsWhole) (arg5 : Memref sig .tc .vmem S1x128x32 .f32) (harg5 : arg5.IsWhole) (arg6 : Memref sig .tc .vmem S1x32x128x32 .f32) (harg6 : arg6.IsWhole) (a : Mid2 F) :
    k0_part3 (F := F) i arg2 harg2 arg3 harg3 arg4 harg4 arg5 harg5 arg6 harg6 a.v64 a.v67 a.v82 a.v85 a.v91 a.v94 epsK
      = (let b := mid3 a
         Prog.ret ⟨b.v97, b.v100, b.v133, b.v136, b.v139, b.v141, b.v143⟩) := rfl

theorem part4_eq (i : grid0.Coords) (arg2 : Memref sig .tc .vmem S1x3x8192 .f32) (harg2 : arg2.IsWhole) (arg3 : Memref sig .tc .vmem S1x8192x3 .f32) (harg3 : arg3.IsWhole) (arg4 : Memref sig .tc .vmem S1x128x3 .f32) (harg4 : arg4.IsWhole) (arg5 : Memref sig .tc .vmem S1x128x32 .f32) (harg5 : arg5.IsWhole) (arg6 : Memref sig .tc .vmem S1x32x128x32 .f32) (harg6 : arg6.IsWhole) (a : Mid2 F) (b : Mid3 F) :
    k0_part4 (F := F) i arg2 harg2 arg3 harg3 arg4 harg4 arg5 harg5 arg6 harg6 a.v64 a.v67 a.v70 a.v79 a.v82 a.v85 a.v94 b.v97 b.v100 b.v133 b.v136 b.v139 b.v141 b.v143
      = (let d := mid4 a b
         Prog.ret ⟨d.v167, d.v168, d.v169, d.v176, d.v199, d.v200⟩) := rfl

/-- The first part, its loads and its loop, then its pure values. -/
theorem part1_eq (i : grid0.Coords) (arg2 : Memref sig .tc .vmem S1x3x8192 .f32) (harg2 : arg2.IsWhole) (arg3 : Memref sig .tc .vmem S1x8192x3 .f32) (harg3 : arg3.IsWhole) (arg4 : Memref sig .tc .vmem S1x128x3 .f32) (harg4 : arg4.IsWhole) (arg5 : Memref sig .tc .vmem S1x128x32 .f32) (harg5 : arg5.IsWhole) (arg6 : Memref sig .tc .vmem S1x32x128x32 .f32) (harg6 : arg6.IsWhole) :
    k0_part1 (F := F) i arg2 harg2 arg3 harg3 arg4 harg4 arg5 harg5 arg6 harg6 = (do
      let v0 : Vec F S1x3x8192 .f32 ← Prog.lift (.load arg2 (Rect.unit (s := S1x3x8192) ![0, 0, 0] S1x3x8192.size inb_S1x3x8192_S1x3x8192_0_0_0).toLoadRect (View.loadsAt_vmem h_S1x3x8192))
      let v2 : Vec F S1x128x1 .f32 ← Prog.lift (.load arg4 (Rect.unit (s := S1x128x3) ![0, 0, 0] S1x128x1.size inb_S1x128x3_S1x128x1_0_0_0).toLoadRect (View.loadsAt_vmem h_S1x128x1))
      let v4 : Vec F S1x128x1 .f32 ← Prog.lift (.load arg4 (Rect.unit (s := S1x128x3) ![0, 0, 1] S1x128x1.size inb_S1x128x3_S1x128x1_0_0_1).toLoadRect (View.loadsAt_vmem h_S1x128x1))
      let v6 : Vec F S1x128x1 .f32 ← Prog.lift (.load arg4 (Rect.unit (s := S1x128x3) ![0, 0, 2] S1x128x1.size inb_S1x128x3_S1x128x1_0_0_2).toLoadRect (View.loadsAt_vmem h_S1x128x1))
      let r : BitVec 32 × FVec F S4224x3 .f32 × FVec F S128x1 .f32 ← Prog.lift (.call (1 : (Λ₀ F).Label) ⟨i, arg2, harg2, arg3, harg3, k0_pay7 v2, k0_pay8 v4, k0_pay9 v6, r2K, k0_pay11 (F := F), k0_pay10 (F := F), 0#32, k0_pay12 (F := F), k0_pay13 (F := F)⟩)
      Prog.ret ⟨k0_pay6 v0, k0_pay7 v2, k0_pay8 v4, k0_pay9 v6, r.2.2, k0_pay15 r.2.1, k0_pay16 r.2.1, k0_pay17 r.2.1, k0_pay18 r.2.2, k0_pay19 r.2.2, k0_pay20 v0 r.2.1 r.2.2, k0_pay21 r.2.1, k0_pay22 v0⟩) := by
  rw [k0_part1_eq_skeleton]; rfl

theorem part5_eq (i : grid0.Coords) (arg2 : Memref sig .tc .vmem S1x3x8192 .f32) (harg2 : arg2.IsWhole) (arg3 : Memref sig .tc .vmem S1x8192x3 .f32) (harg3 : arg3.IsWhole) (arg4 : Memref sig .tc .vmem S1x128x3 .f32) (harg4 : arg4.IsWhole) (arg5 : Memref sig .tc .vmem S1x128x32 .f32) (harg5 : arg5.IsWhole) (arg6 : Memref sig .tc .vmem S1x32x128x32 .f32) (harg6 : arg6.IsWhole) (a : Mid2 F) (b : Mid3 F) (d : Mid4 F) :
    k0_part5 (F := F) i arg2 harg2 arg3 harg3 arg4 harg4 arg5 harg5 arg6 harg6 a.v64 a.v67 a.v70 b.v136 b.v139 d.v167 d.v168 d.v169 d.v176 d.v199 d.v200 = (do
      let z : Vec F S1x128x32 .f32 ← Prog.lift (.load arg5 (Rect.unit (s := S1x128x32) ![0, 0, 0] S1x128x32.size inb_S1x128x32_S1x128x32_0_0_0).toLoadRect (View.loadsAt_vmem h_S1x128x32))
      Prog.ret ⟨(mid5 a b d z).v240, (mid5 a b d z).v244, (mid5 a b d z).v248, (mid5 a b d z).v253⟩) := by
  rw [k0_part5_eq_skeleton]; rfl

/-- The body as its loads, the loop, and the end. -/
theorem qkernel_eq (i : grid0.Coords) (arg2 : Memref sig .tc .vmem S1x3x8192 .f32) (harg2 : arg2.IsWhole) (arg3 : Memref sig .tc .vmem S1x8192x3 .f32) (harg3 : arg3.IsWhole) (arg4 : Memref sig .tc .vmem S1x128x3 .f32) (harg4 : arg4.IsWhole) (arg5 : Memref sig .tc .vmem S1x128x32 .f32) (harg5 : arg5.IsWhole) (arg6 : Memref sig .tc .vmem S1x32x128x32 .f32) (harg6 : arg6.IsWhole) :
    cc0__qkernel (F := F) i arg2 harg2 arg3 harg3 arg4 harg4 arg5 harg5 arg6 harg6 = (do
      let v0 : Vec F S1x3x8192 .f32 ← Prog.lift (.load arg2 (Rect.unit (s := S1x3x8192) ![0, 0, 0] S1x3x8192.size inb_S1x3x8192_S1x3x8192_0_0_0).toLoadRect (View.loadsAt_vmem h_S1x3x8192))
      let v2 : Vec F S1x128x1 .f32 ← Prog.lift (.load arg4 (Rect.unit (s := S1x128x3) ![0, 0, 0] S1x128x1.size inb_S1x128x3_S1x128x1_0_0_0).toLoadRect (View.loadsAt_vmem h_S1x128x1))
      let v4 : Vec F S1x128x1 .f32 ← Prog.lift (.load arg4 (Rect.unit (s := S1x128x3) ![0, 0, 1] S1x128x1.size inb_S1x128x3_S1x128x1_0_0_1).toLoadRect (View.loadsAt_vmem h_S1x128x1))
      let v6 : Vec F S1x128x1 .f32 ← Prog.lift (.load arg4 (Rect.unit (s := S1x128x3) ![0, 0, 2] S1x128x1.size inb_S1x128x3_S1x128x1_0_0_2).toLoadRect (View.loadsAt_vmem h_S1x128x1))
      let r : BitVec 32 × FVec F S4224x3 .f32 × FVec F S128x1 .f32 ← Prog.lift (.call (1 : (Λ₀ F).Label) ⟨i, arg2, harg2, arg3, harg3, k0_pay7 v2, k0_pay8 v4, k0_pay9 v6, r2K, k0_pay11 (F := F), k0_pay10 (F := F), 0#32, k0_pay12 (F := F), k0_pay13 (F := F)⟩)
      let z : Vec F S1x128x32 .f32 ← Prog.lift (.load arg5 (Rect.unit (s := S1x128x32) ![0, 0, 0] S1x128x32.size inb_S1x128x32_S1x128x32_0_0_0).toLoadRect (View.loadsAt_vmem h_S1x128x32))
      let a := mid2 (k0_pay6 v0) (k0_pay7 v2) (k0_pay8 v4) (k0_pay9 v6) (k0_pay15 r.2.1) (k0_pay16 r.2.1) (k0_pay17 r.2.1) (k0_pay18 r.2.2) (k0_pay19 r.2.2) (k0_pay20 v0 r.2.1 r.2.2) (k0_pay21 r.2.1) (k0_pay22 v0)
      let e := mid5 a (mid3 a) (mid4 a (mid3 a)) z
      tailProg i arg2 harg2 arg3 harg3 arg4 harg4 arg5 harg5 arg6 harg6 e.v240 e.v244 e.v248 e.v253 (cosT r.2.2 e.v253) (sinT r.2.2 e.v253)) := by
  rw [cc0__qkernel_eq_skeleton]; unfold cc0__qkernel_skel tailProg
  simp only [part1_eq, part2_eq, part3_eq, part4_eq, part5_eq, part6_eq, Prog.lift, Prog.bind_op, Prog.bind_ret]

/-- The body, from the four input blocks, runs and leaves the output's buffer with the tile's pieces written. -/
theorem bodyRun (c : Dev nD) (i : grid0.Coords) (arg2 : Memref sig .tc .vmem S1x3x8192 .f32) (harg2 : arg2.IsWhole) (arg3 : Memref sig .tc .vmem S1x8192x3 .f32) (harg3 : arg3.IsWhole) (arg4 : Memref sig .tc .vmem S1x128x3 .f32) (harg4 : arg4.IsWhole) (arg5 : Memref sig .tc .vmem S1x128x32 .f32) (harg5 : arg5.IsWhole) (arg6 : Memref sig .tc .vmem S1x32x128x32 .f32) (harg6 : arg6.IsWhole)
    (X : Vec F S1x3x8192 .f32) (Y : Vec F S1x8192x3 .f32) (Q : Vec F S1x128x3 .f32) (Z : Vec F S1x128x32 .f32)
    (E : Set ℕ) (K : PUnit → sProp 𝕄) :
    iprop(owns (c : Thread nD τ) arg2 fullShare X ∗ owns (c : Thread nD τ) arg3 fullShare Y ∗ owns (c : Thread nD τ) arg4 fullShare Q
        ∗ owns (c : Thread nD τ) arg5 fullShare Z ∗ (∃ d, owns (c : Thread nD τ) arg6 fullShare d)
        ∗ (iprop(owns (c : Thread nD τ) arg2 fullShare X ∗ owns (c : Thread nD τ) arg3 fullShare Y ∗ owns (c : Thread nD τ) arg4 fullShare Q
            ∗ owns (c : Thread nD τ) arg5 fullShare Z
            ∗ (∃ f, arg6.view.loc (c : Thread nD τ) ↦[arg6.view.set]{fullShare} arg6.view.writes (Elt F) f (tilePieces X Y Q Z))) -∗ K ⟨⟩))
      ⊢ wp frame (wpE (defs₀ (F := F)) 𝒱K (c : Thread nD τ) none) E (cc0__qkernel i arg2 harg2 arg3 harg3 arg4 harg4 arg5 harg5 arg6 harg6) K := by
  rw [qkernel_eq]
  simp only [Prog.lift, Prog.bind_op, Prog.bind_ret]
  iintro ⟨H2, H3, H4, H5, H6, Hk⟩
  have ho : ∀ {s : Shape} {e : EltTy} (mr : Memref sig .tc .vmem s e) (x : s.Idx → Elt F e),
      owns (c : Thread nD τ) mr fullShare x = (iprop(∃ f : Buf (Elt F) (mr.view.loc (c : Thread nD τ)), ⌜mr.view.read (Elt F) f = x⌝ ∗ (mr.view.loc (c : Thread nD τ) ↦[mr.view.set]{fullShare} f)) : sProp 𝕄) := fun _ _ => rfl
  simp only [ho arg2, ho arg3, ho arg4, ho arg5]
  icases H2 with ⟨%f2, %hf2, H2⟩
  icases H3 with ⟨%f3, %hf3, H3⟩
  icases H4 with ⟨%f4, %hf4, H4⟩
  icases H5 with ⟨%f5, %hf5, H5⟩
  obtain rfl := harg2.eq_unread hf2; obtain rfl := harg3.eq_unread hf3; obtain rfl := harg4.eq_unread hf4; obtain rfl := harg5.eq_unread hf5
  iapply (wp_load 𝒱K (c : Thread nD τ) none E (m := arg2) (View.setOn_subset_set _ _)) $$ H2; iintro H2
  iapply (wp_load 𝒱K (c : Thread nD τ) none E (m := arg4) (View.setOn_subset_set _ _)) $$ H4; iintro H4
  iapply (wp_load 𝒱K (c : Thread nD τ) none E (m := arg4) (View.setOn_subset_set _ _)) $$ H4; iintro H4
  iapply (wp_load 𝒱K (c : Thread nD τ) none E (m := arg4) (View.setOn_subset_set _ _)) $$ H4; iintro H4
  have e2 : View.readAt (Elt F) arg2.view (Rect.unit (s := S1x3x8192) ![0, 0, 0] S1x3x8192.size inb_S1x3x8192_S1x3x8192_0_0_0).toLoadRect (harg2.unread X) = ld2 X :=
    funext fun y => harg2.readAt_unread X _ y
  have e40 : View.readAt (Elt F) arg4.view (Rect.unit (s := S1x128x3) ![0, 0, 0] S1x128x1.size inb_S1x128x3_S1x128x1_0_0_0).toLoadRect (harg4.unread Q) = ldQ0 Q :=
    funext fun y => harg4.readAt_unread Q _ y
  have e41 : View.readAt (Elt F) arg4.view (Rect.unit (s := S1x128x3) ![0, 0, 1] S1x128x1.size inb_S1x128x3_S1x128x1_0_0_1).toLoadRect (harg4.unread Q) = ldQ1 Q :=
    funext fun y => harg4.readAt_unread Q _ y
  have e42 : View.readAt (Elt F) arg4.view (Rect.unit (s := S1x128x3) ![0, 0, 2] S1x128x1.size inb_S1x128x3_S1x128x1_0_0_2).toLoadRect (harg4.unread Q) = ldQ2 Q :=
    funext fun y => harg4.readAt_unread Q _ y
  rw [e2, e40, e41, e42]
  iapply (wp_call_spec 𝒱K (c : Thread nD τ) none E
    (spec c arg2 harg2 arg3 harg3 X Y (k0_pay7 (ldQ0 Q)) (k0_pay8 (ldQ1 Q)) (k0_pay9 (ldQ2 Q)) 16 0 (k0_pay12 (F := F), k0_pay13 (F := F)))
    16 (fun u hu => nomatch hu)
    (spec_le c i arg2 harg2 arg3 harg3 X Y (k0_pay7 (ldQ0 Q)) (k0_pay8 (ldQ1 Q)) (k0_pay9 (ldQ2 Q)) E 16 0 (by rfl) (k0_pay12 (F := F), k0_pay13 (F := F))))
  rw [spec_apply]; unfold held
  isplitl [H2 H3]
  · isplitl [H2]; · iexact H2
    iexact H3
  iintro %r %hr ⟨H2, H3⟩
  iapply (wp_load 𝒱K (c : Thread nD τ) none E (m := arg5) (View.setOn_subset_set _ _)) $$ H5; iintro H5
  have e5 : View.readAt (Elt F) arg5.view (Rect.unit (s := S1x128x32) ![0, 0, 0] S1x128x32.size inb_S1x128x32_S1x128x32_0_0_0).toLoadRect (harg5.unread Z) = ldZ Z :=
    funext fun y => harg5.readAt_unread Z _ y
  rw [e5]
  have hr' : r.2 = found X Y Q := hr
  rw [hr']
  iapply (tailRun c i arg2 harg2 arg3 harg3 arg4 harg4 arg5 harg5 arg6 harg6 (tile5 X Y Q Z).v240 (tile5 X Y Q Z).v244 (tile5 X Y Q Z).v248 (tile5 X Y Q Z).v253 (tileCos X Y Q Z) (tileSin X Y Q Z) E K)
  isplitl [H6]; · iexact H6
  iintro H6
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  unfold tilePieces
  iexact H6

end Cert.Proof.Run

end
-- ==== Proof.Frame.lean ====
/- The launch of the kernel over any values: the pipeline's proof data (each input's buffer at its block, the output's at what
   the body stores), the body obligation, the run, and the frame. The set-up follows the library's examples. -/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.WholeRead
public import Idealize.ShloMosaic.Lib.Ring
public import Idealize.ShloMosaic.Lib.Tactic
public import Idealize.ShloMosaic.Lib.WordCmp
public import Idealize.ShloMosaic.Lib.Claim
public import Idealize.ShloMosaic.Lib.Pipeline.Value
public import Idealize.ShloMosaic.Lib.Pipeline.Cells
public import proofs.«01_k».proof.Proof.BodyRun

@[expose] public section

set_option maxRecDepth 16384

noncomputable section

namespace Cert.Proof.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- A core's buffers when the pipeline is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ 𝒱K m (main (F := F)) (V m) :=
  Pipeline.hmain_prefix cfgs 0 defs₀ 𝒱K m main hostOps0 hostOps0_sub hostOps0_fresh main_chain

/-- The region finds this argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds this argument as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds this argument as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A window's block at a point, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before_of0 {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/

abbrev ms0 (t : Fin (cfg0 (F := F)).N) : Memref sig .tc .vmem S1x3x8192 .f32 := win0_0.stage ((cfg0 (F := F)).slots t 0)
abbrev hs0 (t : Fin (cfg0 (F := F)).N) : (ms0 t).IsWhole := hstage0_0 (((cfg0 (F := F)).slots t 0).cast nbuf0_0)
abbrev ms1 (t : Fin (cfg0 (F := F)).N) : Memref sig .tc .vmem S1x8192x3 .f32 := win0_1.stage ((cfg0 (F := F)).slots t 1)
abbrev hs1 (t : Fin (cfg0 (F := F)).N) : (ms1 t).IsWhole := hstage0_1 (((cfg0 (F := F)).slots t 1).cast nbuf0_1)
abbrev ms2 (t : Fin (cfg0 (F := F)).N) : Memref sig .tc .vmem S1x128x3 .f32 := win0_2.stage ((cfg0 (F := F)).slots t 2)
abbrev hs2 (t : Fin (cfg0 (F := F)).N) : (ms2 t).IsWhole := hstage0_2 (((cfg0 (F := F)).slots t 2).cast nbuf0_2)
abbrev ms3 (t : Fin (cfg0 (F := F)).N) : Memref sig .tc .vmem S1x128x32 .f32 := win0_3.stage ((cfg0 (F := F)).slots t 3)
abbrev hs3 (t : Fin (cfg0 (F := F)).N) : (ms3 t).IsWhole := hstage0_3 (((cfg0 (F := F)).slots t 3).cast nbuf0_3)
abbrev ms4 (t : Fin (cfg0 (F := F)).N) : Memref sig .tc .vmem S1x32x128x32 .f32 := win0_4.stage ((cfg0 (F := F)).slots t 4)
abbrev hs4 (t : Fin (cfg0 (F := F)).N) : (ms4 t).IsWhole := hstage0_4 (((cfg0 (F := F)).slots t 4).cast nbuf0_4)

/-- One staging buffer of the output window, through which its contents are stated. -/
abbrev VO : View sig .tc .vmem S1x32x128x32 .f32 := (Memref.whole cc0_stg4_0 : Memref sig .tc .vmem S1x32x128x32 .f32).view

/-- The stores tile the output's block. -/
theorem pieces_cover (ct q1 q2 q3 : FVec F S128x32 .f32) (y : S1x32x128x32.Idx) : ∃ pc ∈ pieces ct q1 q2 q3, y ∈ pc.1.set :=
  View.cover_of_tiledL (pieces ct q1 q2 q3) S1x1x128x32.size (by sl_kernel_rfl) y

/-- The output's block after the body, from the four input blocks. -/
@[irreducible] def tileOut (X : Vec F S1x3x8192 .f32) (Y : Vec F S1x8192x3 .f32) (Q : Vec F S1x128x3 .f32) (Z : Vec F S1x128x32 .f32) : Vec F S1x32x128x32 .f32 :=
  VO.read (Elt F) (VO.writes (Elt F) VO.junk (tilePieces X Y Q Z))

/-- The output's block after point `t`. -/
@[irreducible] def outsAt (c : Dev nD) (t : Fin (cfg0 (F := F)).N) : Vec F S1x32x128x32 .f32 :=
  tileOut (iblk m c 0 t) (iblk m c 1 t) (iblk m c 2 t) (iblk m c 3 t)

/-- The pipeline's proof data. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0 (c : Dev nD) (t : Fin (cfg0 (F := F)).N) : (dats m 0 c).after 0 t = iblk m c 0 t := by rfl
theorem after1 (c : Dev nD) (t : Fin (cfg0 (F := F)).N) : (dats m 0 c).after 1 t = iblk m c 1 t := by rfl
theorem after2 (c : Dev nD) (t : Fin (cfg0 (F := F)).N) : (dats m 0 c).after 2 t = iblk m c 2 t := by rfl
theorem after3 (c : Dev nD) (t : Fin (cfg0 (F := F)).N) : (dats m 0 c).after 3 t = iblk m c 3 t := by rfl
theorem after4 (c : Dev nD) (t : Fin (cfg0 (F := F)).N) : (dats m 0 c).after 4 t = (outsAt m c t) := by rfl
theorem before0 (c : Dev nD) (t : Fin (cfg0 (F := F)).N) (d) : (dats m 0 c).before 0 t d = iblk m c 0 t :=
  before_of0 m (dats m 0 c) (A_eq m c 0) (after0 m c) t d
theorem before1 (c : Dev nD) (t : Fin (cfg0 (F := F)).N) (d) : (dats m 0 c).before 1 t d = iblk m c 1 t :=
  before_of1 m (dats m 0 c) (A_eq m c 1) (after1 m c) t d
theorem before2 (c : Dev nD) (t : Fin (cfg0 (F := F)).N) (d) : (dats m 0 c).before 2 t d = iblk m c 2 t :=
  before_of2 m (dats m 0 c) (A_eq m c 2) (after2 m c) t d
theorem before3 (c : Dev nD) (t : Fin (cfg0 (F := F)).N) (d) : (dats m 0 c).before 3 t d = iblk m c 3 t :=
  before_of3 m (dats m 0 c) (A_eq m c 3) (after3 m c) t d

/-! ## The body obligation -/

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

theorem sound_body (c : Dev nD) (t : Fin (cfg0 (F := F)).N) :
    bodyPre m c t ⊢ wp frame (wpE (defs₀ (F := F)) 𝒱K (c : Thread nD τ) none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  unfold outsAt
  unfold tileOut
  iintro ⟨HΦ, Ho, ⟨%d0, H0⟩, ⟨%d1, H1⟩, ⟨%d2, H2⟩, ⟨%d3, H3⟩, ⟨%d4, H4⟩⟩
  iapply (bodyRun c (grid0.coords t) _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (pieces_cover _ _ _ _)

theorem defs₀_row (t : Fin (cfg0 (F := F)).N) :
    defs₀ (F := F) .tc cfg0.body (cfg0.bodyArgs t ((cfg0 (F := F)).slots t)) = bodyAt0 t := by
  unfold defs₀; rw [Defs.onTc_tc]

theorem body_obligation (c : Dev nD) : BodyObligation (dats (F := F) m 0 c) (defs₀ (F := F)) 𝒱K () Set.univ := fun t => by
  rw [bigSep_W0, bigSep_W0, defs₀_row]
  exact triple_restated (sound_body m c t) rfl .rfl fun _ => .rfl

/-! ## The run -/

set_option backward.isDefEq.respectTransparency.types false in
/-- Every execution ends, each array of the pipeline at what the proof data compute and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱K m ρ main
    (hbody := fun c => (body_obligation m c).loose) (hshare := fun c => (dats m 0 c).share_full fun _ => rfl)
    (howed := fun _ _ => rfl) (V := V m) (hmain := hmain m) (hA := A_eq m) (hΦ := fun _ _ => rfl)

theorem kept0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))
theorem kept1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))
theorem kept2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- The frame over any values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨kept0 m r h.1 c, kept1 m r h.1 c, kept2 m r h.1 c⟩, h.2⟩) (run_main m ρ)

/-! ## The output array block by block -/

theorem idx_inj : ∀ t t' : Fin (cfg0 (F := F)).N, win0_4.index t = win0_4.index t' → t = t' :=
  (by decide +kernel : ∀ t t' : Fin grid0.N, win0_4.index t = win0_4.index t' → t = t')

theorem disjoint4 : ∀ t t' : Fin (cfg0 (F := F)).N, ((cfg0 (F := F)).win 4).flush t = true → ((cfg0 (F := F)).win 4).flush t' = true → t ≠ t' →
    Disjoint (((cfg0 (F := F)).win 4).blk t).view.set (((cfg0 (F := F)).win 4).blk t').view.set :=
  fun t t' _ _ hne => ((cfg0 (F := F)).win 4).disjoint_blk fun h => hne (idx_inj t t' h)

/-- Block `t` of the final array is the tile's output. -/
theorem blocks4 (c : Dev nD) (t : Fin (cfg0 (F := F)).N) :
    (((cfg0 (F := F)).win 4).blk t).view.read (Elt F) ((dats m 0 c).arrAt 4 (cfg0 (F := F)).N) = ((cfg0 (F := F)).win 4).cut (grid0.coords t) (outsAt m c t) := by
  rw [(dats m 0 c).read_blk_arrAt_eq_flushed 4 disjoint4 (cfg0 (F := F)).N t t.isLt (flush0_4 t)]
  show ((cfg0 (F := F)).win 4).cut (grid0.coords t) ((dats m 0 c).after 4 t) = _
  rw [after4]

/-- The run with the output array named. -/
theorem run_value : θ_run defs (onTc (τ := τ) (main (F := F))) ⟨m, fun _ => 0, ρ⟩ fun r => ∀ c : Dev nD,
      r.2.mem ((c.tc : Thread nD τ).loc main_v1) = (dats m 0 c).arrAt 4 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 4, kept0 m r h.1 c, kept1 m r h.1 c, kept2 m r h.1 c⟩) (run_main m ρ)

end Cert.Proof.Run

end
-- ==== Proof.Spec.lean ====
/- The mathematics of the program on the extended reals, one query at a time: which points are near the query, the first 33
   of them padded, the angles of the 32 neighbours round the query's direction, the neighbours in order of the angle, and the
   four quaternion channels. -/
module

public import Idealize.ShloMosaic.Lib.Pointwise
public import Mathlib.Data.Nat.Count

@[expose] public section

noncomputable section

namespace Cert.Proof.Spec

open Idealize.ShloMosaic
open scoped Classical

/-- A point or a vector of space. -/
abbrev Vec3 := Fin 3 → EReal

/-- The number a 32-bit pattern denotes. -/
abbrev lit (w : BitVec 32) : EReal := Ideal.ofBits .f32 w

/-! ## Vectors -/

/-- The inner product. -/
def dot (u v : Vec3) : EReal := u 0 * v 0 + u 1 * v 1 + u 2 * v 2

/-- The length. -/
def len (v : Vec3) : EReal := Ideal.sqrt (dot v v)

/-- The length, kept off zero. -/
def len' (v : Vec3) : EReal := len v + lit 0x358637BD#32

/-- The vector over its length. -/
def unit (v : Vec3) : Vec3 := fun a => Ideal.div (v a) (len' v)

/-- The cross product. -/
def cross (u v : Vec3) : Vec3 :=
  ![u 1 * v 2 - u 2 * v 1, u 2 * v 0 - u 0 * v 2, u 0 * v 1 - u 1 * v 0]

/-! ## The angle of a neighbour -/

/-- A direction across the query's: from the first axis, or from the second where the query lies along the first. -/
def side (p : Vec3) : Vec3 :=
  if lit 0x3F7FBE77#32 < max (p 0) (-(p 0)) then ![-(p 1) * p 0, lit 0x3F800000#32 - p 1 * p 1, -(p 1) * p 2]
  else ![lit 0x3F800000#32 - p 0 * p 0, -(p 0) * p 1, -(p 0) * p 2]

/-- The part of `r` across `p`. -/
def across (p r : Vec3) : Vec3 := fun a => r a - dot p r * p a

/-- The direction of a neighbour across the query's direction. -/
def heading (q r : Vec3) : Vec3 := unit (across (unit (unit q)) r)

/-- The zero direction of the angles. -/
def zeroDir (q : Vec3) : Vec3 := unit (side (unit (unit q)))

/-- The angle of the neighbour `r`, or `w` where its direction vanishes. -/
def angle (q r : Vec3) (w : EReal) : EReal :=
  if dot (heading q r) (heading q r) < lit 0x2B8CBCCC#32 then w
  else Ideal.atan2 (dot (cross (zeroDir q) (heading q r)) (unit q)) (dot (zeroDir q) (heading q r))

/-! ## The neighbours -/

/-- Point `n` is near the query. -/
def near (x : Fin 8192 → Vec3) (q : Vec3) (n : ℕ) : Prop :=
  ∃ h : n < 8192, dot (fun a => q a - x ⟨n, h⟩ a) (fun a => q a - x ⟨n, h⟩ a) < lit 0x3D23D70A#32

/-- How many of the first `n` points are near. -/
def cnt (x : Fin 8192 → Vec3) (q : Vec3) (n : ℕ) : ℕ := Nat.count (near x q) n

/-- The near point with `k` near points before it, or 0. -/
def kth (x : Fin 8192 → Vec3) (q : Vec3) (k : ℕ) : ℕ :=
  if h : ∃ n, near x q n ∧ cnt x q n = k then Classical.choose h else 0

/-- The `k`-th near point in index order; past the last, the first one; with none, point 0. -/
def pick (x : Fin 8192 → Vec3) (q : Vec3) (k : ℕ) : ℕ := if k < cnt x q 8192 then kth x q k else kth x q 0

/-- Each number below a count is the count at some counted place. -/
theorem exists_count {p : ℕ → Prop} [DecidablePred p] {k N : ℕ} (h : k < Nat.count p N) :
    ∃ n, n < N ∧ p n ∧ Nat.count p n = k := by
  induction N with
  | zero => simp at h
  | succ N ih =>
    rw [Nat.count_succ] at h
    by_cases hk : k < Nat.count p N
    · obtain ⟨n, hn, h1, h2⟩ := ih hk; exact ⟨n, by omega, h1, h2⟩
    · split at h
      · rename_i hp; exact ⟨N, by omega, hp, by omega⟩
      · omega

/-- A near point is the one its count names. -/
theorem kth_eq (x : Fin 8192 → Vec3) (q : Vec3) {n k : ℕ} (h : near x q n) (hk : cnt x q n = k) : kth x q k = n := by
  have he : ∃ n, near x q n ∧ cnt x q n = k := ⟨n, h, hk⟩
  unfold kth
  rw [dif_pos he]
  exact Nat.count_injective (Classical.choose_spec he).1 h ((Classical.choose_spec he).2.trans hk.symm)

/-- Below the count, the picked point is near, and it is the one with that many near points before it. -/
theorem kth_near (x : Fin 8192 → Vec3) (q : Vec3) {k N : ℕ} (h : k < cnt x q N) :
    near x q (kth x q k) ∧ cnt x q (kth x q k) = k ∧ kth x q k < N := by
  obtain ⟨n, hn, h1, h2⟩ := exists_count h
  rw [kth_eq x q h1 h2]
  exact ⟨h1, h2, hn⟩

theorem kth_lt (x : Fin 8192 → Vec3) (q : Vec3) (k : ℕ) : kth x q k < 8192 := by
  unfold kth
  split
  · rename_i h; exact (Classical.choose_spec h).1.1
  · decide

theorem pick_lt (x : Fin 8192 → Vec3) (q : Vec3) (k : ℕ) : pick x q k < 8192 := by
  unfold pick
  split
  · exact kth_lt x q k
  · exact kth_lt x q 0

/-- Neighbour `k` of the query, relative to it: the first of all is left out. -/
def rel (x : Fin 8192 → Vec3) (q : Vec3) (k : Fin 32) : Vec3 := fun a => x ⟨pick x q (k + 1), pick_lt x q _⟩ a - q a

/-! ## The order -/

/-- How many of the 32 numbers go before number `k`: the smaller ones, and the equal ones of smaller index. -/
def place (g : Fin 32 → EReal) (k : Fin 32) : ℕ := (Finset.univ.filter fun j => g j < g k ∨ g j = g k ∧ j < k).card

/-- The angles of the query's neighbours. -/
def angles (x : Fin 8192 → Vec3) (q : Vec3) (w : Fin 32 → EReal) (k : Fin 32) : EReal := angle q (rel x q k) (w k)

/-- The neighbour at place `r`. -/
def ordered (x : Fin 8192 → Vec3) (q : Vec3) (w : Fin 32 → EReal) (r : Fin 32) : Vec3 := fun a =>
  ∑ k : Fin 32, rel x q k a * (if place (angles x q w) k = r.val then 1 else 0)

/-! ## The quaternion -/

/-- Half the angle of the rotation for a vector. -/
def half (v : Vec3) : EReal :=
  Ideal.div (Ideal.div (len v) (lit 0x3E4CCCCD#32) * lit 0x40490FDB#32) (lit 0x40000000#32)

/-- The cosine's Taylor polynomial of degree 12. -/
def cosPoly (t : EReal) : EReal :=
  lit 0x3F800000#32 + t * t * (lit 0xBF000000#32 + t * t * (lit 0x3D2AAAAB#32 + t * t * (lit 0xBAB60B61#32
    + t * t * (lit 0x37D00D01#32 + t * t * (lit 0xB493F27E#32 + Ideal.div (t * t) (lit 0x4DE467E0#32))))))

/-- The sine's Taylor polynomial of degree 11. -/
def sinPoly (t : EReal) : EReal :=
  t * (lit 0x3F800000#32 + t * t * (lit 0xBE2AAAAB#32 + t * t * (lit 0x3C088889#32 + t * t * (lit 0xB9500D01#32
    + t * t * (lit 0x3638EF1D#32 + t * t * lit 0xB2D7322B#32)))))

/-- The cosine, where `s` by the polynomial. -/
def cosine (s : Prop) (t : EReal) : EReal := if s then cosPoly t else Ideal.cos t

/-- The sine, where `s` by the polynomial. -/
def sine (s : Prop) (t : EReal) : EReal := if s then sinPoly t else Ideal.sin t

/-- The quaternion of a vector. -/
def quat (s : Prop) (v : Vec3) : Fin 4 → EReal :=
  ![cosine s (half v), sine s (half v) * unit v 0, sine s (half v) * unit v 1, sine s (half v) * unit v 2]

/-- The quaternion of the neighbour at place `r`. -/
def result (x : Fin 8192 → Vec3) (q : Vec3) (w : Fin 32 → EReal) (s : Prop) (r : Fin 32) : Fin 4 → EReal :=
  quat s (ordered x q w r)

/-! ## Numbers -/

theorem mul_self_nonneg' (a : EReal) : 0 ≤ a * a := by
  rcases le_total 0 a with h | h
  · exact mul_nonneg h h
  · have := mul_nonneg (EReal.neg_nonneg.mpr h) (EReal.neg_nonneg.mpr h)
    rwa [neg_mul_neg] at this

theorem dot_self_nonneg (v : Vec3) : 0 ≤ dot v v :=
  add_nonneg (add_nonneg (mul_self_nonneg' _) (mul_self_nonneg' _)) (mul_self_nonneg' _)

theorem sqrt_nonneg' {a : EReal} (h : 0 ≤ a) : 0 ≤ Ideal.sqrt a := by
  induction a using EReal.rec with
  | bot => exact absurd h (by simp)
  | top => simp
  | coe r =>
    rw [Ideal.sqrt_coe, if_neg (by simpa using h)]
    exact_mod_cast Real.sqrt_nonneg r

theorem eps_pos : 0 < lit 0x358637BD#32 := by
  simp [Ideal.ofBits, Ideal.ieee, -EReal.coe_mul]

theorem lit_33 : lit 0x42040000#32 = ((33 : ℝ) : EReal) := by
  simp [Ideal.ofBits, Ideal.ieee, -EReal.coe_mul]; norm_num

theorem lit_neg_one : lit 0xBF800000#32 = ((-1 : ℝ) : EReal) := by
  simp [Ideal.ofBits, Ideal.ieee, -EReal.coe_mul, -EReal.coe_neg]; norm_num

theorem lit_one : lit 0x3F800000#32 = 1 := by
  simp [lit, Ideal.ofBits, Ideal.ieee, -EReal.coe_mul]; norm_num

theorem lit_top : lit 0x7F800000#32 = ⊤ := by
  simp [Ideal.ofBits, Ideal.ieee, -EReal.coe_mul]

theorem len'_pos (v : Vec3) : 0 < len' v :=
  lt_of_lt_of_le eps_pos (le_add_of_nonneg_left (sqrt_nonneg' (dot_self_nonneg v)))

/-- To multiply by the reciprocal is to divide, off zero. -/
theorem mul_recip (x : EReal) {y : EReal} (h : y ≠ 0) : x * Ideal.div 1 y = Ideal.div x y := by
  unfold Ideal.div
  rw [if_neg h, if_neg h, one_mul]

/-- A point near some query is finite. -/
theorem near_sub_self (x : Fin 8192 → Vec3) (q : Vec3) (n : ℕ) (h : near x q n) (a : Fin 3) :
    x ⟨n, h.1⟩ a - x ⟨n, h.1⟩ a = 0 := by
  obtain ⟨hn, h⟩ := h
  have key : ∀ u v : EReal, (u - v) * (u - v) ≠ ⊤ → v - v = 0 := by
    intro u v huv
    induction v using EReal.rec with
    | bot => exact absurd (by rw [sub_eq_add_neg, EReal.neg_bot]; induction u using EReal.rec <;> simp) huv
    | top => exact absurd (by rw [sub_eq_add_neg, EReal.neg_top]; simp) huv
    | coe r => exact_mod_cast sub_self r
  refine key (q a) _ fun ht => ?_
  have hs : ∀ u : EReal, u * u ≠ ⊥ := fun u hu => by
    have := mul_self_nonneg' u; rw [hu] at this; exact absurd this (by simp)
  have hs2 : ∀ u v : EReal, u * u + v * v ≠ ⊥ := fun u v hu => by
    have := add_nonneg (mul_self_nonneg' u) (mul_self_nonneg' v); rw [hu] at this; exact absurd this (by simp)
  refine absurd h ?_
  have : dot (fun a => q a - x ⟨n, hn⟩ a) (fun a => q a - x ⟨n, hn⟩ a) = ⊤ := by
    unfold dot
    fin_cases a
    · simp only [Fin.zero_eta] at ht
      rw [ht, EReal.top_add_of_ne_bot (hs _), EReal.top_add_of_ne_bot (hs _)]
    · simp only [Fin.mk_one] at ht
      rw [ht, EReal.add_top_of_ne_bot (hs _), EReal.top_add_of_ne_bot (hs _)]
    · simp only [Fin.reduceFinMk] at ht
      rw [ht, EReal.add_top_of_ne_bot (hs2 _ _)]
  rw [this]
  exact not_top_lt

end Cert.Proof.Spec

end
-- ==== Proof.Search.lean ====
/- The search loop's values at the extended reals: after every pass the counts are the numbers of near points so far and the
   coordinates are those of the near points found so far, one row per place and query. -/
module

public import proofs.«01_k».proof.Proof.Body
public import proofs.«01_k».proof.Proof.Spec

@[expose] public section

set_option maxRecDepth 16384

noncomputable section

namespace Cert.Proof.Run

open Cert.KernelIdeal Cert.KernelIdeal.Gen
open Idealize.ShloMosaic

open Cert.Proof.Spec
open scoped Classical

/-- A natural number among the extended reals. -/
abbrev num (n : ℕ) : EReal := ((n : ℝ) : EReal)

/-! ## Bits and counts as numbers -/

theorem bit_num (p : Prop) [Decidable p] (φ : FTy) :
    FloatOps.sitofp (F := Ideal) φ (BitVec.setWidth 32 (BitVec.ofBool (decide p))) = if p then 1 else 0 := by
  change (((BitVec.setWidth 32 (BitVec.ofBool (decide p))).toInt : ℝ) : EReal) = _
  by_cases h : p
  · simp [h]
  · simp [h]

theorem word_num (n : ℕ) (h : n < 2 ^ 31) (φ : FTy) : FloatOps.sitofp (F := Ideal) φ (BitVec.ofNat 32 n) = num n := by
  change (((BitVec.ofNat 32 n).toInt : ℝ) : EReal) = _
  rw [BitVec.toInt_ofNat']
  have : (n : ℤ).bmod (2 ^ 32) = n := by
    rw [Int.bmod_eq_of_le] <;> omega
  norm_num [this]
  simp_all

/-- A sum of indicators is a count. -/
theorem sum_indicator {n : ℕ} (p : Fin n → Prop) [DecidablePred p] :
    (∑ x : Fin n, (if p x then (1 : EReal) else 0)) = num (Finset.univ.filter p).card := by
  rw [Finset.card_filter]
  have : ∀ s : Finset (Fin n), (∑ x ∈ s, (if p x then (1 : EReal) else 0)) = num (∑ x ∈ s, if p x then 1 else 0) := by
    intro s
    induction s using Finset.induction_on with
    | empty => simp
    | insert a s ha ih =>
      rw [Finset.sum_insert ha, Finset.sum_insert ha, ih]
      split
      · push_cast; rfl
      · simp
  exact this _

theorem card_le_count {N : ℕ} (p : ℕ → Prop) (n : Fin N) :
    (Finset.univ.filter fun x : Fin N => p x ∧ x ≤ n).card = Nat.count p (n + 1) := by
  rw [Nat.count_eq_card_filter_range]
  refine Finset.card_bij (fun x _ => x.val) (fun x hx => ?_) (fun x _ y _ h => Fin.ext h) (fun m hm => ?_)
  · simp only [Finset.mem_filter, Finset.mem_univ, true_and, Finset.mem_range] at hx ⊢
    exact ⟨by have := hx.2; omega, hx.1⟩
  · simp only [Finset.mem_filter, Finset.mem_range] at hm
    exact ⟨⟨m, by omega⟩, by simp only [Finset.mem_filter, Finset.mem_univ, true_and]; exact ⟨hm.2, by
      rw [Fin.le_def]; simp; omega⟩, rfl⟩

/-! ## The blocks -/

/-- The points of a block. -/
def pts (Y : Vec Ideal S1x8192x3 .f32) : Fin 8192 → Vec3 := fun n a => Y (ix3 0 n a)

/-- A query of a block. -/
def qry (Q : Vec Ideal S1x128x3 .f32) (s : Fin 128) : Vec3 := fun a => Q (ix3 0 s a)

theorem qx_apply (Q : Vec Ideal S1x128x3 .f32) (s : Fin 128) : k0_pay7 (ldQ0 Q) (ix2 s 0) = qry Q s 0 := by
  pointwise [k0_pay7, ldQ0, qry]

theorem qy_apply (Q : Vec Ideal S1x128x3 .f32) (s : Fin 128) : k0_pay8 (ldQ1 Q) (ix2 s 0) = qry Q s 1 := by
  pointwise [k0_pay8, ldQ1, qry]

theorem qz_apply (Q : Vec Ideal S1x128x3 .f32) (s : Fin 128) : k0_pay9 (ldQ2 Q) (ix2 s 0) = qry Q s 2 := by
  pointwise [k0_pay9, ldQ2, qry]

theorem off1_val : ∀ j < 16, k0_off1 (BitVec.ofNat 32 j) 0 = 0 ∧ k0_off1 (BitVec.ofNat 32 j) 1 = 0
    ∧ k0_off1 (BitVec.ofNat 32 j) 2 = 512 * j := by decide +kernel

theorem off2_val : ∀ j < 16, k0_off2 (BitVec.ofNat 32 j) 0 = 0 ∧ k0_off2 (BitVec.ofNat 32 j) 1 = 512 * j
    ∧ k0_off2 (BitVec.ofNat 32 j) 2 = 0 := by decide +kernel

theorem xChunk_apply (X : Vec Ideal S1x3x8192 .f32) (j : ℕ) (hj : j < 16) (a : Fin 3) (n : Fin 512) :
    xChunk X j hj (ix3 0 a n) = X (ix3 0 a ⟨512 * j + n, by omega⟩) := by
  pointwise [xChunk]
  have h := off1_val j hj
  congr 1
  simp only [h.1, h.2.1, h.2.2, zero_add]
  rfl

theorem yChunk_apply (Y : Vec Ideal S1x8192x3 .f32) (j : ℕ) (hj : j < 16) (n : Fin 512) (a : Fin 3) :
    yChunk Y j hj (ix3 0 n a) = pts Y ⟨512 * j + n, by omega⟩ a := by
  pointwise [yChunk, pts]
  have h := off2_val j hj
  congr 1
  simp only [h.1, h.2.1, h.2.2, zero_add]
  rfl

section
variable (X : Vec Ideal S1x3x8192 .f32) (Y : Vec Ideal S1x8192x3 .f32) (Q : Vec Ideal S1x128x3 .f32)

/-- The mask of a chunk: the near points. -/
theorem mask_apply (hXY : ∀ a n, X (ix3 0 a n) = Y (ix3 0 n a)) (j : ℕ) (hj : j < 16) (s : Fin 128) (n : Fin 512) :
    k0_pay108 (k0_pay7 (ldQ0 Q)) (k0_pay8 (ldQ1 Q)) (k0_pay9 (ldQ2 Q)) r2K (xChunk X j hj) (ix2 s n)
      = BitVec.ofBool (decide (near (pts Y) (qry Q s) (512 * j + n))) := by
  pointwise [k0_pay108]
  simp only [qx_apply, qy_apply, qz_apply, xChunk_apply, hXY]
  congr 1
  refine decide_eq_decide.mpr ⟨fun h => ⟨by omega, h⟩, fun h => h.2⟩

/-- The running count inside a chunk. -/
theorem within_apply (hXY : ∀ a n, X (ix3 0 a n) = Y (ix3 0 n a)) (j : ℕ) (hj : j < 16) (s : Fin 128) (n : Fin 512) :
    k0_pay109 (k0_pay7 (ldQ0 Q)) (k0_pay8 (ldQ1 Q)) (k0_pay9 (ldQ2 Q)) r2K k0_pay11 (xChunk X j hj) (ix2 s n)
      = num (Nat.count (fun m => near (pts Y) (qry Q s) (512 * j + m)) (n + 1)) := by
  have hm := mask_apply X Y Q hXY j hj s
  pointwise [k0_pay109, k0_pay11] at hm ⊢
  simp only [hm]
  rw [← card_le_count, ← sum_indicator]
  refine Finset.sum_congr rfl fun x _ => ?_
  have hle : IntOp.cmpi CmpIPredicate.sle (BitVec.ofNat 32 ↑x) (BitVec.ofNat 32 ↑n) = BitVec.ofBool (decide (x ≤ n)) := by
    simp only [IntOp.cmpi]
    congr 1
    rw [BitVec.sle_eq_decide, BitVec.toInt_ofNat', BitVec.toInt_ofNat', Int.bmod_eq_of_le (by omega) (by omega),
      Int.bmod_eq_of_le (by omega) (by omega)]
    exact decide_eq_decide.mpr (by rw [Fin.le_def]; omega)
  rw [hle, bit_num, bit_num]
  by_cases h1 : near (pts Y) (qry Q s) (512 * j + x) <;> by_cases h2 : x ≤ n <;> simp [h1, h2]

/-- The one-hot row of place `k`: the near point with `k` near points before it. -/
theorem hot_apply (hXY : ∀ a n, X (ix3 0 a n) = Y (ix3 0 n a)) (j : ℕ) (hj : j < 16) (tot : FVec Ideal S128x1 .f32)
    (k : Fin 33) (s : Fin 128) (n : Fin 512) (htot : tot (ix2 s 0) = num (cnt (pts Y) (qry Q s) (512 * j))) :
    (k0_pay110 (k0_pay7 (ldQ0 Q)) (k0_pay8 (ldQ1 Q)) (k0_pay9 (ldQ2 Q)) r2K k0_pay11 tot (xChunk X j hj) (ix3 k s n)
      = k0_pay111 (F := Ideal) k0_pay10 (ix3 k s n))
      ↔ near (pts Y) (qry Q s) (512 * j + n) ∧ cnt (pts Y) (qry Q s) (512 * j + n) = k := by
  have hm := mask_apply X Y Q hXY j hj s n
  have hw := within_apply X Y Q hXY j hj s n
  pointwise [k0_pay110, k0_pay111, k0_pay10] at hm hw ⊢
  simp only [hm, hw, htot]
  rw [word_num k.val (by omega), bit_num]
  by_cases h : near (pts Y) (qry Q s) (512 * j + n)
  · have hc : cnt (pts Y) (qry Q s) (512 * j + n) = cnt (pts Y) (qry Q s) (512 * j)
        + Nat.count (fun m => near (pts Y) (qry Q s) (512 * j + m)) n := Nat.count_add ..
    rw [Nat.count_succ, if_pos h]
    simp only [h, decide_true, BitVec.ofBool_true, Scalar.select, ↓reduceIte, true_and, hc]
    have : num (Nat.count (fun m => near (pts Y) (qry Q s) (512 * j + m)) n + 1) + num (cnt (pts Y) (qry Q s) (512 * j)) - 1
        = num (cnt (pts Y) (qry Q s) (512 * j) + Nat.count (fun m => near (pts Y) (qry Q s) (512 * j + m)) n) := by
      simp only [num]
      rw [← EReal.coe_one, ← EReal.coe_add, ← EReal.coe_sub]
      congr 1
      push_cast
      exact by rw [add_right_comm, add_sub_cancel_right, add_comm]
    rw [this]
    simp only [num]
    norm_cast
  · simp only [h, decide_false, BitVec.ofBool_false, Scalar.select, false_and, iff_false]
    rw [if_neg (by decide)]
    rw [show Ideal.ofBits FTy.f32 3212836864#32 = ((-1 : ℝ) : EReal) from lit_neg_one]
    intro he
    have := EReal.coe_injective he
    have h0 : (0 : ℝ) ≤ (k.val : ℝ) := Nat.cast_nonneg _
    linarith

/-- The new counts. -/
theorem tot_step (hXY : ∀ a n, X (ix3 0 a n) = Y (ix3 0 n a)) (j : ℕ) (hj : j < 16) (tot : FVec Ideal S128x1 .f32)
    (s : Fin 128) (htot : tot (ix2 s 0) = num (cnt (pts Y) (qry Q s) (512 * j))) :
    k0_pay5 tot (k0_pay109 (k0_pay7 (ldQ0 Q)) (k0_pay8 (ldQ1 Q)) (k0_pay9 (ldQ2 Q)) r2K k0_pay11 (xChunk X j hj)) (ix2 s 0)
      = num (cnt (pts Y) (qry Q s) (512 * (j + 1))) := by
  have hw := within_apply X Y Q hXY j hj s
  pointwise [k0_pay5] at hw ⊢
  rw [hw, htot]
  have hc : cnt (pts Y) (qry Q s) (512 * (j + 1)) = cnt (pts Y) (qry Q s) (512 * j)
      + Nat.count (fun m => near (pts Y) (qry Q s) (512 * j + m)) 512 := by
    rw [mul_add, mul_one]; exact Nat.count_add ..
  rw [hc]
  simp only [num]
  rw [← EReal.coe_add]
  norm_cast

theorem hot_sum (x : Fin 8192 → Vec3) (q : Vec3) (j : ℕ) (hj : j < 16) (k : ℕ) (f : ℕ → EReal) :
    (∑ n : Fin 512, (if near x q (512 * j + n) ∧ cnt x q (512 * j + n) = k then (1 : EReal) else 0) * f (512 * j + n))
      = if cnt x q (512 * j) ≤ k ∧ k < cnt x q (512 * (j + 1)) then f (kth x q k) else 0 := by
  split
  case isTrue h =>
    obtain ⟨h1, h2, h3⟩ := kth_near x q h.2
    have h4 : 512 * j ≤ kth x q k := by
      by_contra hlt
      have := Nat.count_monotone (near x q) (show kth x q k + 1 ≤ 512 * j by omega)
      rw [Nat.count_succ, if_pos h1] at this
      have h5 := h.1
      unfold cnt at h2 h5
      omega
    rw [Finset.sum_eq_single (⟨kth x q k - 512 * j, by omega⟩ : Fin 512)]
    · rw [show 512 * j + (⟨kth x q k - 512 * j, by omega⟩ : Fin 512).val = kth x q k by simp; omega, if_pos ⟨h1, h2⟩, one_mul]
    · intro n _ hn
      rw [if_neg, zero_mul]
      rintro ⟨hn1, hn2⟩
      exact hn (Fin.ext (by have := kth_eq x q hn1 hn2; simp; omega))
    · simp
  case isFalse h =>
    refine Finset.sum_eq_zero fun n _ => ?_
    rw [if_neg, zero_mul]
    rintro ⟨h1, h2⟩
    refine h ⟨h2 ▸ Nat.count_monotone _ (by omega), ?_⟩
    have := Nat.count_monotone (near x q) (show 512 * j + n + 1 ≤ 512 * (j + 1) by omega)
    rw [Nat.count_succ, if_pos h1] at this
    unfold cnt at h2 ⊢
    omega

/-- What the loop's state holds after `j` passes. -/
structure Holds (j : ℕ) (st : FVec Ideal S4224x3 .f32 × FVec Ideal S128x1 .f32) : Prop where
  tot : ∀ s, st.2 (ix2 s 0) = num (cnt (pts Y) (qry Q s) (512 * j))
  co : ∀ (k : Fin 33) (s : Fin 128) (a : Fin 3) , st.1 (ix2 ⟨k * 128 + s, by omega⟩ a)
    = if k < cnt (pts Y) (qry Q s) (512 * j) then (if h : kth (pts Y) (qry Q s) k < 8192 then pts Y ⟨_, h⟩ a else 0) else 0

theorem holds_init : Holds Y Q 0 (k0_pay12, k0_pay13) := by
  refine ⟨fun s => ?_, fun k s a => ?_⟩
  · pointwise [k0_pay13]; simp [cnt, num]
  · pointwise [k0_pay12]; simp [cnt]

theorem holds_step (hXY : ∀ a n, X (ix3 0 a n) = Y (ix3 0 n a)) (j : ℕ) (hj : j < 16) (st : _) (h : Holds Y Q j st) :
    Holds Y Q (j + 1) (step X Y (k0_pay7 (ldQ0 Q)) (k0_pay8 (ldQ1 Q)) (k0_pay9 (ldQ2 Q)) j hj st) := by
  refine ⟨fun s => tot_step X Y Q hXY j hj st.2 s (h.tot s), fun k s a => ?_⟩
  have hh := fun n => hot_apply X Y Q hXY j hj st.2 k s n (h.tot s)
  have h0 := h.co k s a
  unfold step
  pointwise [k0_pay4, k0_pay107] at hh h0 ⊢
  simp only [hh, bit_num, yChunk_apply]
  obtain ⟨f, hf⟩ : ∃ f : ℕ → EReal, ∀ m, f m = if h : m < 8192 then pts Y ⟨m, h⟩ a else 0 := ⟨_, fun _ => rfl⟩
  have e1 : ∀ n : Fin 512, pts Y ⟨512 * j + n, by omega⟩ a = f (512 * j + n) := fun n => by
    rw [hf, dif_pos]
  have e2 : ∀ n : Fin 512, near (pts Y) (qry Q s) (512 * j + n) →
      pts Y ⟨512 * j + n, by omega⟩ a - pts Y ⟨512 * j + n, by omega⟩ a = 0 := fun n h => near_sub_self _ _ _ h a
  rw [h0]
  refine (congrArg₂ (· + ·) rfl (congrArg₂ (· + ·) (congrArg₂ (· + ·) ((Finset.sum_congr rfl fun n _ => congrArg₂ (· * ·) rfl (e1 n)).trans
    (hot_sum (pts Y) (qry Q s) j hj k f)) (Finset.sum_eq_zero ?_)) (Finset.sum_eq_zero ?_))).trans ?_
  · intro n _
    split
    case isTrue h => rw [e2 n h.1, mul_zero]
    case isFalse => rw [zero_mul]
  · intro n _
    split
    case isTrue h =>
      rw [dif_neg (by omega), dif_neg (by omega)]
      have : (⟨6 + a.val - 3 - 3, by omega⟩ : Fin 3) = a := Fin.ext (by simp; omega)
      rw [this, e2 n h.1, sub_zero, mul_zero]
    case isFalse => rw [zero_mul]
  rw [hf]
  simp only [add_zero]
  have hmono : cnt (pts Y) (qry Q s) (512 * j) ≤ cnt (pts Y) (qry Q s) (512 * (j + 1)) := Nat.count_monotone _ (by omega)
  by_cases h1 : k < cnt (pts Y) (qry Q s) (512 * j)
  · rw [if_pos h1, if_neg (by omega), add_zero, if_pos (by omega)]
  · by_cases h2 : k < cnt (pts Y) (qry Q s) (512 * (j + 1))
    · rw [if_neg h1, if_pos ⟨by omega, h2⟩, if_pos h2, zero_add]
    · rw [if_neg h1, if_neg (by omega), if_neg h2, add_zero]

/-- When the loop does not go on, every query has its 33 near points. -/
theorem full_of_stop (j : ℕ) (st : FVec Ideal S4224x3 .f32 × FVec Ideal S128x1 .f32) (h : Holds Y Q j st)
    (hm : ¬ more st.2) (s : Fin 128) : 33 ≤ cnt (pts Y) (qry Q s) (512 * j) := by
  have h33 := lit_33
  unfold more at hm
  pointwise [k0_pay3] at hm
  have h1 : lit 1107558400#32 ≤ _ := not_lt.mp fun h' => hm (by rw [decide_eq_true h']; rfl)
  rw [Finset.le_fold_min] at h1
  have h2 := h1.2 (s, 0) (Finset.mem_univ _)
  simp only [h.tot s, h33, num] at h2
  have := EReal.coe_le_coe_iff.mp h2
  exact_mod_cast this

/-- The loop's end state: all the points seen, or 33 near points for every query. -/
theorem loop_holds (hXY : ∀ a n, X (ix3 0 a n) = Y (ix3 0 n a)) : ∀ (k j : ℕ) (st : _), j + k = 16 → Holds Y Q j st →
    ∃ j', Holds Y Q j' (loopFrom X Y (k0_pay7 (ldQ0 Q)) (k0_pay8 (ldQ1 Q)) (k0_pay9 (ldQ2 Q)) k j st)
      ∧ (j' = 16 ∨ j' ≤ 16 ∧ ∀ s, 33 ≤ cnt (pts Y) (qry Q s) (512 * j'))
  | 0, j, st, hj, h => ⟨j, h, .inl (by omega)⟩
  | k + 1, j, st, hj, h => by
    unfold loopFrom
    by_cases hc : j < 16 ∧ more st.2
    · rw [dif_pos hc]
      exact loop_holds hXY k (j + 1) _ (by omega) (holds_step X Y Q hXY j hc.1 st h)
    · rw [dif_neg hc]
      exact ⟨j, h, .inr ⟨by omega, full_of_stop Y Q j st h (fun hm => hc ⟨by omega, hm⟩)⟩⟩

/-- The count the kernel ends with: capped by the early exit, it still decides every comparison below 33. -/
theorem found_holds (hXY : ∀ a n, X (ix3 0 a n) = Y (ix3 0 n a)) (s : Fin 128) :
    ∃ c : ℕ, (found X Y Q).2 (ix2 s 0) = num c ∧ (∀ k < 33, k < c ↔ k < cnt (pts Y) (qry Q s) 8192)
      ∧ ∀ (k : Fin 33) (a : Fin 3), k < c → (found X Y Q).1 (ix2 ⟨k * 128 + s, by omega⟩ a)
        = pts Y ⟨kth (pts Y) (qry Q s) k, kth_lt _ _ _⟩ a := by
  obtain ⟨j, h, hj⟩ := loop_holds X Y Q hXY 16 0 _ rfl (holds_init Y Q)
  refine ⟨cnt (pts Y) (qry Q s) (512 * j), h.tot s, fun k hk => ?_, fun k a hk => ?_⟩
  · rcases hj with rfl | ⟨hj, hc⟩
    · rfl
    · have := hc s
      have := Nat.count_monotone (near (pts Y) (qry Q s)) (show 512 * j ≤ 8192 by omega)
      unfold cnt at *
      omega
  · have := h.co k s a
    rw [if_pos hk, dif_pos (kth_lt _ _ _)] at this
    exact this

end

end Cert.Proof.Run

end
-- ==== Proof.Tile.lean ====
/- What a tile computes from the blocks, at the extended reals: the relative coordinates, the directions, the angles, the
   neighbours in order of the angle, and the trigonometry, each as the mathematics says. -/
module

public import proofs.«01_k».proof.Proof.Search

@[expose] public section

set_option maxRecDepth 16384

noncomputable section

namespace Cert.Proof.Run

open Cert.KernelIdeal Cert.KernelIdeal.Gen
open Idealize.ShloMosaic

open Cert.Proof.Spec
open scoped Classical

theorem abs_apply (a : EReal) : FloatOps.absf (F := Ideal) (φ := .f32) a = max a (-a) := rfl

theorem slt_bit (x k : Fin 32) :
    IntOp.cmpi CmpIPredicate.slt (BitVec.ofNat 32 ↑x) (BitVec.ofNat 32 ↑k) = BitVec.ofBool (decide (x < k)) := by
  simp only [IntOp.cmpi]
  congr 1
  rw [BitVec.slt_eq_decide, BitVec.toInt_ofNat', BitVec.toInt_ofNat', Int.bmod_eq_of_le (by omega) (by omega),
    Int.bmod_eq_of_le (by omega) (by omega)]
  exact decide_eq_decide.mpr (by rw [Fin.lt_def]; omega)

theorem bits_or_and (a b c : Prop) [Decidable a] [Decidable b] [Decidable c] : IntOp.ori (BitVec.ofBool (decide a)) (IntOp.andi (BitVec.ofBool (decide b)) (BitVec.ofBool (decide c)))
    = BitVec.ofBool (decide (a ∨ b ∧ c)) := by
  by_cases ha : a <;> by_cases hb : b <;> by_cases hc : c <;> simp [ha, hb, hc, IntOp.ori, IntOp.andi]

/-! ## The pieces, from what their operands are at one query -/

section
variable (s : Fin 128) (k : Fin 32) (v3 v5 v7 : FVec Ideal S128x1 .f32) (q : Vec3)
variable (h3 : v3 (ix2 s 0) = q 0) (h5 : v5 (ix2 s 0) = q 1) (h7 : v7 (ix2 s 0) = q 2)
include h3 h5 h7

theorem unit_x : k0_pay28 v3 v5 v7 (ix2 s 0) = unit q 0 := by
  pointwise [k0_pay28, k0_pay27]; rw [h3, h5, h7]; rfl
theorem unit_y : k0_pay29 v3 v5 v7 (ix2 s 0) = unit q 1 := by
  pointwise [k0_pay29, k0_pay27]; rw [h3, h5, h7]; rfl
theorem unit_z : k0_pay30 v3 v5 v7 (ix2 s 0) = unit q 2 := by
  pointwise [k0_pay30, k0_pay27]; rw [h3, h5, h7]; rfl
theorem unit_len : k0_pay31 v3 v5 v7 (ix2 s 0) = len (unit q) := by
  pointwise [k0_pay31]
  rw [unit_x s v3 v5 v7 q h3 h5 h7, unit_y s v3 v5 v7 q h3 h5 h7, unit_z s v3 v5 v7 q h3 h5 h7]; rfl
theorem axis_x : k0_pay32 v3 v5 v7 (ix2 s 0) = unit (unit q) 0 := by
  pointwise [k0_pay32]
  rw [unit_x s v3 v5 v7 q h3 h5 h7, unit_len s v3 v5 v7 q h3 h5 h7]; rfl

end

section
variable (s : Fin 128) (v82 v85 v91 v94 : FVec Ideal S128x1 .f32) (u : Vec3)
variable (h82 : v82 (ix2 s 0) = u 1) (h85 : v85 (ix2 s 0) = u 2) (h91 : v91 (ix2 s 0) = len u) (h94 : v94 (ix2 s 0) = unit u 0)

include h82 h91 in
theorem axis_y : k0_pay33 v82 v91 epsK (ix2 s 0) = unit u 1 := by
  pointwise [k0_pay33, epsK]; rw [h82, h91]; rfl
include h85 h91 in
theorem axis_z : k0_pay34 v85 v91 (ix2 s 0) = unit u 2 := by
  pointwise [k0_pay34]; rw [h85, h91]; rfl

include h82 h91 h94 in
theorem side_x : k0_pay36 v82 v91 v94 epsK (ix2 s 0) = side (unit u) 0 := by
  have h97 := axis_y s v82 v91 u h82 h91
  pointwise [k0_pay36, k0_pay35] at h97 ⊢
  rw [h94, h97]
  unfold side
  by_cases h : lit 0x3F7FBE77#32 < max (unit u 0) (-(unit u 0)) <;> simp [h, Scalar.select, abs_apply]
include h82 h91 h94 in
theorem side_y : k0_pay37 v82 v91 v94 epsK (ix2 s 0) = side (unit u) 1 := by
  have h97 := axis_y s v82 v91 u h82 h91
  pointwise [k0_pay37, k0_pay35] at h97 ⊢
  rw [h94, h97]
  unfold side
  by_cases h : lit 0x3F7FBE77#32 < max (unit u 0) (-(unit u 0)) <;> simp [h, Scalar.select, abs_apply]
include h82 h85 h91 h94 in
theorem side_z : k0_pay38 v82 v85 v91 v94 epsK (ix2 s 0) = side (unit u) 2 := by
  have h97 := axis_y s v82 v91 u h82 h91
  have h100 := axis_z s v85 v91 u h85 h91
  pointwise [k0_pay38, k0_pay35] at h97 h100 ⊢
  rw [h94, h97, h100]
  unfold side
  by_cases h : lit 0x3F7FBE77#32 < max (unit u 0) (-(unit u 0)) <;> simp [h, Scalar.select, abs_apply]
include h82 h85 h91 h94

theorem side_len : k0_pay39 v82 v85 v91 v94 epsK (ix2 s 0) = len (side (unit u)) := by
  have hx := side_x s v82 v91 v94 u h82 h91 h94
  have hy := side_y s v82 v91 v94 u h82 h91 h94
  have hz := side_z s v82 v85 v91 v94 u h82 h85 h91 h94
  pointwise [k0_pay39] at hx hy hz ⊢
  rw [hx, hy, hz]; rfl
theorem zero_x : k0_pay40 v82 v85 v91 v94 epsK (ix2 s 0) = unit (side (unit u)) 0 := by
  have hx := side_x s v82 v91 v94 u h82 h91 h94
  have hl := side_len s v82 v85 v91 v94 u h82 h85 h91 h94
  pointwise [k0_pay40] at hx hl ⊢
  rw [hx, hl]; rfl
theorem zero_y : k0_pay41 v82 v85 v91 v94 epsK (ix2 s 0) = unit (side (unit u)) 1 := by
  have hx := side_y s v82 v91 v94 u h82 h91 h94
  have hl := side_len s v82 v85 v91 v94 u h82 h85 h91 h94
  pointwise [k0_pay41] at hx hl ⊢
  rw [hx, hl]; rfl
theorem zero_z : k0_pay42 v82 v85 v91 v94 epsK (ix2 s 0) = unit (side (unit u)) 2 := by
  have hx := side_z s v82 v85 v91 v94 u h82 h85 h91 h94
  have hl := side_len s v82 v85 v91 v94 u h82 h85 h91 h94
  pointwise [k0_pay42] at hx hl ⊢
  rw [hx, hl]; rfl

end

section
variable (s : Fin 128) (k : Fin 32) (v64 v67 v70 v141 v143 : FVec Ideal S128x32 .f32) (v94 v97 v100 : FVec Ideal S128x1 .f32)
  (p r : Vec3)
variable (h64 : v64 (ix2 s k) = r 0) (h67 : v67 (ix2 s k) = r 1) (h70 : v70 (ix2 s k) = r 2)
  (h94 : v94 (ix2 s 0) = p 0) (h97 : v97 (ix2 s 0) = p 1) (h100 : v100 (ix2 s 0) = p 2)
  (h141 : v141 (ix2 s k) = p 0 * r 0) (h143 : v143 (ix2 s k) = p 1 * r 1)

include h70 h100 h141 h143 in
theorem along_apply : k0_pay45 v70 v100 v141 v143 (ix2 s k) = dot p r := by
  pointwise [k0_pay45]; rw [h70, h100, h141, h143]; rfl
include h64 h70 h94 h100 h141 h143 in
theorem across_x : k0_pay46 v64 v70 v94 v100 v141 v143 (ix2 s k) = across p r 0 := by
  have h := along_apply s k v70 v141 v143 v100 p r h70 h100 h141 h143
  pointwise [k0_pay46] at h ⊢; rw [h, h64, h94]; rfl
include h67 h70 h97 h100 h141 h143 in
theorem across_y : k0_pay47 v67 v70 v97 v100 v141 v143 (ix2 s k) = across p r 1 := by
  have h := along_apply s k v70 v141 v143 v100 p r h70 h100 h141 h143
  pointwise [k0_pay47] at h ⊢; rw [h, h67, h97]; rfl
include h70 h100 h141 h143 in
theorem across_z : k0_pay48 v70 v100 v141 v143 (ix2 s k) = across p r 2 := by
  have h := along_apply s k v70 v141 v143 v100 p r h70 h100 h141 h143
  pointwise [k0_pay48] at h ⊢; rw [h, h70, h100]; rfl

include h64 h67 h70 h94 h97 h100 h141 h143

theorem recip_apply : k0_pay49 v64 v67 v70 v94 v97 v100 v141 v143 (ix2 s k) = Ideal.div 1 (len' (across p r)) := by
  have hx := across_x s k v64 v70 v141 v143 v94 v100 p r h64 h70 h94 h100 h141 h143
  have hy := across_y s k v67 v70 v141 v143 v97 v100 p r h67 h70 h97 h100 h141 h143
  have hz := across_z s k v70 v141 v143 v100 p r h70 h100 h141 h143
  pointwise [k0_pay49] at hx hy hz ⊢; rw [hx, hy, hz]
  rfl
theorem heading_x : k0_pay50 v64 v67 v70 v94 v97 v100 v141 v143 (ix2 s k) = unit (across p r) 0 := by
  have hx := across_x s k v64 v70 v141 v143 v94 v100 p r h64 h70 h94 h100 h141 h143
  have hl := recip_apply s k v64 v67 v70 v141 v143 v94 v97 v100 p r h64 h67 h70 h94 h97 h100 h141 h143
  pointwise [k0_pay50] at hx hl ⊢; rw [hx, hl, mul_recip _ (len'_pos _).ne']; rfl
theorem heading_y : k0_pay51 v64 v67 v70 v94 v97 v100 v141 v143 (ix2 s k) = unit (across p r) 1 := by
  have hx := across_y s k v67 v70 v141 v143 v97 v100 p r h67 h70 h97 h100 h141 h143
  have hl := recip_apply s k v64 v67 v70 v141 v143 v94 v97 v100 p r h64 h67 h70 h94 h97 h100 h141 h143
  pointwise [k0_pay51] at hx hl ⊢; rw [hx, hl, mul_recip _ (len'_pos _).ne']; rfl
theorem heading_z : k0_pay52 v64 v67 v70 v94 v97 v100 v141 v143 (ix2 s k) = unit (across p r) 2 := by
  have hx := across_z s k v70 v141 v143 v100 p r h70 h100 h141 h143
  have hl := recip_apply s k v64 v67 v70 v141 v143 v94 v97 v100 p r h64 h67 h70 h94 h97 h100 h141 h143
  pointwise [k0_pay52] at hx hl ⊢; rw [hx, hl, mul_recip _ (len'_pos _).ne']; rfl
theorem close_apply : k0_pay53 v64 v67 v70 v94 v97 v100 v141 v143 (ix2 s k)
    = BitVec.ofBool (decide (dot (unit (across p r)) (unit (across p r)) < lit 0x2B8CBCCC#32)) := by
  have hx := heading_x s k v64 v67 v70 v141 v143 v94 v97 v100 p r h64 h67 h70 h94 h97 h100 h141 h143
  have hy := heading_y s k v64 v67 v70 v141 v143 v94 v97 v100 p r h64 h67 h70 h94 h97 h100 h141 h143
  have hz := heading_z s k v64 v67 v70 v141 v143 v94 v97 v100 p r h64 h67 h70 h94 h97 h100 h141 h143
  pointwise [k0_pay53] at hx hy hz ⊢; rw [hx, hy, hz]; rfl
theorem turn_apply (v79 v82 v85 v133 v136 v139 : FVec Ideal S128x1 .f32) (u z : Vec3)
    (h79 : v79 (ix2 s 0) = u 0) (h82 : v82 (ix2 s 0) = u 1) (h85 : v85 (ix2 s 0) = u 2)
    (h133 : v133 (ix2 s 0) = z 0) (h136 : v136 (ix2 s 0) = z 1) (h139 : v139 (ix2 s 0) = z 2) :
    k0_pay54 v64 v67 v70 v79 v82 v85 v94 v97 v100 v133 v136 v139 v141 v143 (ix2 s k)
      = dot (cross z (unit (across p r))) u := by
  have hx := heading_x s k v64 v67 v70 v141 v143 v94 v97 v100 p r h64 h67 h70 h94 h97 h100 h141 h143
  have hy := heading_y s k v64 v67 v70 v141 v143 v94 v97 v100 p r h64 h67 h70 h94 h97 h100 h141 h143
  have hz := heading_z s k v64 v67 v70 v141 v143 v94 v97 v100 p r h64 h67 h70 h94 h97 h100 h141 h143
  pointwise [k0_pay54] at hx hy hz ⊢; rw [hx, hy, hz, h79, h82, h85, h133, h136, h139]; rfl

end

/-! ## The order -/

/-- The one-hot matrix: neighbour `k` at its place. -/
theorem places_apply (s : Fin 128) (v136 v139 : FVec Ideal S128x1 .f32) (v167 v168 v169 v199 v200 : FVec Ideal S128x32 .f32)
    (v176 : IVec S128x32 1) (z209 : Vec Ideal S1x128x32 .f32) (g : Fin 32 → EReal)
    (hg : ∀ k, (Scalar.select (v176 (ix2 s k)) (z209 (ix3 0 s k)) (Ideal.atan2 (v199 (ix2 s k))
      (v200 (ix2 s k) * v167 (ix2 s k) + v136 (ix2 s 0) * v168 (ix2 s k) + v139 (ix2 s 0) * v169 (ix2 s k)))) = g k)
    (k r : Fin 32) :
    k0_pay56 v136 v139 v167 v168 v169 v176 v199 v200 z209 (ix3 s k r) = if place g k = r.val then 1 else 0 := by
  pointwise [k0_pay56] at hg ⊢
  simp only [hg]
  simp only [slt_bit, bits_or_and, bit_num, sum_indicator]
  rw [word_num r.val (by omega)]
  unfold place
  refine if_congr ?_ rfl rfl
  simp only [num]
  norm_cast

/-- A coordinate in order. -/
theorem sorted_x (s : Fin 128) (v64 : FVec Ideal S128x32 .f32) (v136 v139 : FVec Ideal S128x1 .f32) (v167 v168 v169 v199 v200 : FVec Ideal S128x32 .f32)
    (v176 : IVec S128x32 1) (z209 : Vec Ideal S1x128x32 .f32) (r : Fin 32) :
    k0_pay57 v64 v136 v139 v167 v168 v169 v176 v199 v200 z209 (ix2 s r)
      = ∑ k : Fin 32, v64 (ix2 s k) * k0_pay56 v136 v139 v167 v168 v169 v176 v199 v200 z209 (ix3 s k r) := by
  pointwise [k0_pay57]
theorem sorted_y (s : Fin 128) (v67 : FVec Ideal S128x32 .f32) (v136 v139 : FVec Ideal S128x1 .f32) (v167 v168 v169 v199 v200 : FVec Ideal S128x32 .f32)
    (v176 : IVec S128x32 1) (z209 : Vec Ideal S1x128x32 .f32) (r : Fin 32) :
    k0_pay58 v67 v136 v139 v167 v168 v169 v176 v199 v200 z209 (ix2 s r)
      = ∑ k : Fin 32, v67 (ix2 s k) * k0_pay56 v136 v139 v167 v168 v169 v176 v199 v200 z209 (ix3 s k r) := by
  pointwise [k0_pay58]
theorem sorted_z (s : Fin 128) (v70 : FVec Ideal S128x32 .f32) (v136 v139 : FVec Ideal S128x1 .f32) (v167 v168 v169 v199 v200 : FVec Ideal S128x32 .f32)
    (v176 : IVec S128x32 1) (z209 : Vec Ideal S1x128x32 .f32) (r : Fin 32) :
    k0_pay59 v70 v136 v139 v167 v168 v169 v176 v199 v200 z209 (ix2 s r)
      = ∑ k : Fin 32, v70 (ix2 s k) * k0_pay56 v136 v139 v167 v168 v169 v176 v199 v200 z209 (ix3 s k r) := by
  pointwise [k0_pay59]

/-! ## The tile -/

section
variable (X : Vec Ideal S1x3x8192 .f32) (Y : Vec Ideal S1x8192x3 .f32) (Q : Vec Ideal S1x128x3 .f32) (Z : Vec Ideal S1x128x32 .f32)
variable (hXY : ∀ a n, X (ix3 0 a n) = Y (ix3 0 n a)) (s : Fin 128) (k : Fin 32)
include hXY

omit hXY in
theorem first_of_none (h : ¬ 0 < cnt (pts Y) (qry Q s) 8192) : kth (pts Y) (qry Q s) 0 = 0 := by
  unfold kth
  rw [dif_neg]
  rintro ⟨n, hn, h1⟩
  have := Nat.count_monotone (near (pts Y) (qry Q s)) (show n + 1 ≤ 8192 from hn.1)
  rw [Nat.count_succ, if_pos hn] at this
  unfold cnt at h
  omega

omit hXY in
/-- The padded choice: a found coordinate, the first found one, or point 0's. -/
theorem padded (c : ℕ) (hc : ∀ k < 33, k < c ↔ k < cnt (pts Y) (qry Q s) 8192) (a : Fin 3) (A B D : EReal)
    (hA : 1 + k.val < c → A = pts Y ⟨kth (pts Y) (qry Q s) (1 + k), kth_lt _ _ _⟩ a)
    (hB : 0 < c → B = pts Y ⟨kth (pts Y) (qry Q s) 0, kth_lt _ _ _⟩ a) (hD : D = pts Y 0 a) :
    (if FloatOps.sitofp (F := Ideal) FTy.f32 (BitVec.ofNat 32 (1 + k)) < min (num c) (Ideal.ofBits FTy.f32 1107558400#32) then A
      else if 0 < num c then B else D) - qry Q s a = rel (pts Y) (qry Q s) k a := by
  rw [word_num _ (by omega), show Ideal.ofBits FTy.f32 1107558400#32 = ((33 : ℝ) : EReal) from lit_33]
  have e1 : (num (1 + k.val) < min (num c) ((33 : ℝ) : EReal)) ↔ 1 + k.val < c := by
    simp only [num]
    rw [lt_min_iff, EReal.coe_lt_coe_iff, EReal.coe_lt_coe_iff]
    constructor
    · intro h; exact_mod_cast h.1
    · intro h
      refine ⟨by exact_mod_cast h, ?_⟩
      have : 1 + k.val < 33 := by omega
      exact_mod_cast this
  have e2 : (0 : EReal) < num c ↔ 0 < c := by
    simp only [num]; rw [← EReal.coe_zero, EReal.coe_lt_coe_iff]; exact_mod_cast Iff.rfl
  unfold rel
  congr 1
  by_cases h : 1 + k.val < c
  · rw [if_pos (e1.mpr h), hA h]
    congr 1
    refine Fin.ext ?_
    simp only [pick]
    rw [add_comm k.val 1, if_pos ((hc _ (by omega)).mp h)]
  · rw [if_neg (fun h' => h (e1.mp h'))]
    have hp : pick (pts Y) (qry Q s) (k + 1) = kth (pts Y) (qry Q s) 0 := by
      unfold pick
      rw [add_comm k.val 1, if_neg fun h' => h ((hc _ (by omega)).mpr h')]
    by_cases h0 : 0 < c
    · rw [if_pos (e2.mpr h0), hB h0]
      congr 1
      exact Fin.ext hp.symm
    · rw [if_neg (fun h' => h0 (e2.mp h')), hD]
      congr 1
      refine Fin.ext ?_
      rw [show (⟨pick (pts Y) (qry Q s) (k + 1), pick_lt _ _ _⟩ : Fin 8192).val = pick (pts Y) (qry Q s) (k + 1) from rfl, hp,
        first_of_none Y Q s fun h' => h0 ((hc 0 (by omega)).mpr h')]
      rfl

theorem rel_x : (tile2 X Y Q).v64 (ix2 s k) = rel (pts Y) (qry Q s) k 0 := by
  obtain ⟨c, h1, hc, h2⟩ := found_holds X Y Q hXY s
  unfold tile2 mid2
  have hq := qx_apply Q s
  pointwise [k0_pay24, k0_pay23, k0_pay20, k0_pay19, k0_pay18, k0_pay15, k0_pay14, k0_pay6, ld2] at h1 hq ⊢
  rw [hq, h1]
  exact padded Y Q s k c hc 0 _ _ _ (fun h => h2 ⟨1 + k, by omega⟩ 0 h) (fun h => by simpa using h2 0 0 h) (hXY 0 0)

theorem rel_y : (tile2 X Y Q).v67 (ix2 s k) = rel (pts Y) (qry Q s) k 1 := by
  obtain ⟨c, h1, hc, h2⟩ := found_holds X Y Q hXY s
  unfold tile2 mid2
  have hq := qy_apply Q s
  pointwise [k0_pay25, k0_pay23, k0_pay21, k0_pay22, k0_pay19, k0_pay18, k0_pay16, k0_pay14, k0_pay6, ld2] at h1 hq ⊢
  rw [hq, h1]
  exact padded Y Q s k c hc 1 _ _ _ (fun h => h2 ⟨1 + k, by omega⟩ 1 h) (fun h => by simpa using h2 0 1 h) (hXY 1 0)

theorem rel_z : (tile2 X Y Q).v70 (ix2 s k) = rel (pts Y) (qry Q s) k 2 := by
  obtain ⟨c, h1, hc, h2⟩ := found_holds X Y Q hXY s
  unfold tile2 mid2
  have hq := qz_apply Q s
  pointwise [k0_pay26, k0_pay23, k0_pay19, k0_pay18, k0_pay17, k0_pay14, k0_pay6, ld2] at h1 hq ⊢
  rw [hq, h1]
  exact padded Y Q s k c hc 2 _ _ _ (fun h => h2 ⟨1 + k, by omega⟩ 2 h) (fun h => by simpa using h2 0 2 h) (hXY 2 0)

/-- The angles of the tile. -/
theorem angle_apply : Scalar.select ((tile4 X Y Q).v176 (ix2 s k)) (ldZ Z (ix3 0 s k)) (Ideal.atan2 ((tile4 X Y Q).v199 (ix2 s k))
      ((tile4 X Y Q).v200 (ix2 s k) * (tile4 X Y Q).v167 (ix2 s k) + (tile3 X Y Q).v136 (ix2 s 0) * (tile4 X Y Q).v168 (ix2 s k)
        + (tile3 X Y Q).v139 (ix2 s 0) * (tile4 X Y Q).v169 (ix2 s k)))
    = angles (pts Y) (qry Q s) (fun k => Z (ix3 0 s k)) k := by
  have h64 := rel_x X Y Q hXY s k
  have h67 := rel_y X Y Q hXY s k
  have h70 := rel_z X Y Q hXY s k
  have h3 := qx_apply Q s
  have h5 := qy_apply Q s
  have h7 := qz_apply Q s
  have h79 : (tile2 X Y Q).v79 (ix2 s 0) = _ := unit_x s _ _ _ _ h3 h5 h7
  have h82 : (tile2 X Y Q).v82 (ix2 s 0) = _ := unit_y s _ _ _ _ h3 h5 h7
  have h85 : (tile2 X Y Q).v85 (ix2 s 0) = _ := unit_z s _ _ _ _ h3 h5 h7
  have h91 : (tile2 X Y Q).v91 (ix2 s 0) = _ := unit_len s _ _ _ _ h3 h5 h7
  have h94 : (tile2 X Y Q).v94 (ix2 s 0) = _ := axis_x s _ _ _ _ h3 h5 h7
  have h97 : (tile3 X Y Q).v97 (ix2 s 0) = _ := axis_y s _ _ _ h82 h91
  have h100 : (tile3 X Y Q).v100 (ix2 s 0) = _ := axis_z s _ _ _ h85 h91
  have h133 : (tile3 X Y Q).v133 (ix2 s 0) = _ := zero_x s _ _ _ _ _ h82 h85 h91 h94
  have h136 : (tile3 X Y Q).v136 (ix2 s 0) = _ := zero_y s _ _ _ _ _ h82 h85 h91 h94
  have h139 : (tile3 X Y Q).v139 (ix2 s 0) = _ := zero_z s _ _ _ _ _ h82 h85 h91 h94
  have h141 : (tile3 X Y Q).v141 (ix2 s k) = unit (unit (qry Q s)) 0 * rel (pts Y) (qry Q s) k 0 := by
    rw [← h64, ← h94]; unfold tile3 mid3; pointwise [k0_pay43]
  have h143 : (tile3 X Y Q).v143 (ix2 s k) = unit (unit (qry Q s)) 1 * rel (pts Y) (qry Q s) k 1 := by
    rw [← h67, ← h97]; unfold tile3 mid3; pointwise [k0_pay44, k0_pay33]
  have h167 : (tile4 X Y Q).v167 (ix2 s k) = _ := heading_x s k _ _ _ _ _ _ _ _ _ _ h64 h67 h70 h94 h97 h100 h141 h143
  have h168 : (tile4 X Y Q).v168 (ix2 s k) = _ := heading_y s k _ _ _ _ _ _ _ _ _ _ h64 h67 h70 h94 h97 h100 h141 h143
  have h169 : (tile4 X Y Q).v169 (ix2 s k) = _ := heading_z s k _ _ _ _ _ _ _ _ _ _ h64 h67 h70 h94 h97 h100 h141 h143
  have h176 : (tile4 X Y Q).v176 (ix2 s k) = _ := close_apply s k _ _ _ _ _ _ _ _ _ _ h64 h67 h70 h94 h97 h100 h141 h143
  have h199 : (tile4 X Y Q).v199 (ix2 s k) = _ :=
    turn_apply s k _ _ _ _ _ _ _ _ _ _ h64 h67 h70 h94 h97 h100 h141 h143 _ _ _ _ _ _ _ _ h79 h82 h85 h133 h136 h139
  have h200 : (tile4 X Y Q).v200 (ix2 s k) = (tile3 X Y Q).v133 (ix2 s 0) := by
    unfold tile4 mid4; pointwise [k0_pay55]
  have hz : ldZ Z (ix3 0 s k) = Z (ix3 0 s k) := by pointwise [ldZ]
  rw [h176, h199, h200, h133, h136, h139, h167, h168, h169, hz]
  unfold angles angle heading zeroDir Scalar.select
  by_cases h : dot (unit (across (unit (unit (qry Q s))) (rel (pts Y) (qry Q s) k))) (unit (across (unit (unit (qry Q s))) (rel (pts Y) (qry Q s) k)))
      < lit 0x2B8CBCCC#32
  · simp only [h, decide_true, BitVec.ofBool_true, if_true]
  · simp only [h, decide_false, BitVec.ofBool_false, if_false]; rfl

/-- The tile's neighbours in order. -/
theorem order_x (r : Fin 32) : (tile5 X Y Q Z).v240 (ix2 s r) = ordered (pts Y) (qry Q s) (fun k => Z (ix3 0 s k)) r 0 := by
  refine (sorted_x s _ _ _ _ _ _ _ _ _ _ r).trans (Finset.sum_congr rfl fun k _ => congrArg₂ (· * ·) (rel_x X Y Q hXY s k)
    (places_apply s _ _ _ _ _ _ _ _ _ _ (fun k => angle_apply X Y Q Z hXY s k) k r))
theorem order_y (r : Fin 32) : (tile5 X Y Q Z).v244 (ix2 s r) = ordered (pts Y) (qry Q s) (fun k => Z (ix3 0 s k)) r 1 := by
  refine (sorted_y s _ _ _ _ _ _ _ _ _ _ r).trans (Finset.sum_congr rfl fun k _ => congrArg₂ (· * ·) (rel_y X Y Q hXY s k)
    (places_apply s _ _ _ _ _ _ _ _ _ _ (fun k => angle_apply X Y Q Z hXY s k) k r))
theorem order_z (r : Fin 32) : (tile5 X Y Q Z).v248 (ix2 s r) = ordered (pts Y) (qry Q s) (fun k => Z (ix3 0 s k)) r 2 := by
  refine (sorted_z s _ _ _ _ _ _ _ _ _ _ r).trans (Finset.sum_congr rfl fun k _ => congrArg₂ (· * ·) (rel_z X Y Q hXY s k)
    (places_apply s _ _ _ _ _ _ _ _ _ _ (fun k => angle_apply X Y Q Z hXY s k) k r))
theorem norm_apply (r : Fin 32) : (tile5 X Y Q Z).v253 (ix2 s r)
    = dot (ordered (pts Y) (qry Q s) (fun k => Z (ix3 0 s k)) r) (ordered (pts Y) (qry Q s) (fun k => Z (ix3 0 s k)) r) := by
  have hx := order_x X Y Q Z hXY s r
  have hy := order_y X Y Q Z hXY s r
  have hz := order_z X Y Q Z hXY s r
  unfold dot
  rw [← hx, ← hy, ← hz]
  unfold tile5 mid5
  pointwise [k0_pay60]

end

end Cert.Proof.Run

end
-- ==== Proof.Stores.lean ====
/- The tile's stores at the extended reals: channel `8 c + m` of the output block is quaternion channel `c`, its neighbours
   turned by `m` places. -/
module

public import proofs.«01_k».proof.Proof.Tile
public import proofs.«01_k».proof.Proof.Frame

@[expose] public section

set_option maxRecDepth 16384

noncomputable section

namespace Cert.Proof.Run

open Cert.KernelIdeal Cert.KernelIdeal.Gen
open Idealize.ShloMosaic

open Cert.Proof.Spec
open scoped Classical

section
variable (X : Vec Ideal S1x3x8192 .f32) (Y : Vec Ideal S1x8192x3 .f32) (Q : Vec Ideal S1x128x3 .f32) (Z : Vec Ideal S1x128x32 .f32)
variable (hXY : ∀ a n, X (ix3 0 a n) = Y (ix3 0 n a))
include hXY

/-- Every query of the tile has a near point. -/
def AllNear (Y : Vec Ideal S1x8192x3 .f32) (Q : Vec Ideal S1x128x3 .f32) : Prop := ∀ s, 0 < cnt (pts Y) (qry Q s) 8192

theorem allHave_iff : allHave (found X Y Q).2 = 1#1 ↔ AllNear Y Q := by
  have h := found_holds X Y Q hXY
  unfold allHave
  pointwise [k0_pay63]
  have e : ∀ b : BitVec 1, Scalar.cmpi CmpIPredicate.ne (Scalar.extui b : BitVec 32) 0#32 = 1#1 ↔ b = 1#1 := by decide
  rw [e]
  have e2 : ∀ p : Prop, ∀ _ : Decidable p, BitVec.ofBool (decide p) = 1#1 ↔ p := by
    intro p _; by_cases hp : p <;> simp [hp]
  rw [e2, Finset.lt_fold_min]
  have e3 : ∀ s, 0 < (found X Y Q).2 (ix2 s 0) ↔ 0 < cnt (pts Y) (qry Q s) 8192 := fun s => by
    obtain ⟨c, h1, hc, -⟩ := h s
    rw [h1, ← hc 0 (by omega)]
    simp only [num]; rw [← EReal.coe_zero, EReal.coe_lt_coe_iff]; exact_mod_cast Iff.rfl
  constructor
  · intro h' s
    exact (e3 s).mp (h'.2 (s, 0) (Finset.mem_univ _))
  · intro h'
    refine ⟨?_, fun x _ => (e3 _).mpr (h' x.1)⟩
    rw [show Ideal.ofBits FTy.f32 2139095040#32 = ⊤ from lit_top]
    exact EReal.zero_lt_top

/-- The cosines, the sines and the three vector channels. -/
theorem cos_apply (s : Fin 128) (r : Fin 32) : tileCos X Y Q Z (ix2 s r)
    = result (pts Y) (qry Q s) (fun k => Z (ix3 0 s k)) (AllNear Y Q) r 0 := by
  have hn := norm_apply X Y Q Z hXY s r
  unfold tileCos cosT result quat cosine
  simp only [allHave_iff X Y Q hXY, Matrix.cons_val_zero]
  split
  · pointwise [k0_pay65, k0_pay64, k0_pay62, k0_pay61] at hn ⊢
    rw [hn]; unfold cosPoly; rw [lit_one]; rfl
  · pointwise [k0_pay67, k0_pay62, k0_pay61] at hn ⊢
    rw [hn]; rfl

theorem sin_apply (s : Fin 128) (r : Fin 32) : tileSin X Y Q Z (ix2 s r)
    = sine (AllNear Y Q) (half (ordered (pts Y) (qry Q s) (fun k => Z (ix3 0 s k)) r)) := by
  have hn := norm_apply X Y Q Z hXY s r
  unfold tileSin sinT sine
  simp only [allHave_iff X Y Q hXY]
  split
  · pointwise [k0_pay66, k0_pay64, k0_pay62, k0_pay61] at hn ⊢
    rw [hn]; unfold sinPoly; rw [lit_one]; rfl
  · pointwise [k0_pay68, k0_pay62, k0_pay61] at hn ⊢
    rw [hn]; rfl

theorem vec_x (s : Fin 128) (r : Fin 32) : k0_pay70 (tile5 X Y Q Z).v240 (tile5 X Y Q Z).v253 (tileSin X Y Q Z) (ix2 s r)
    = result (pts Y) (qry Q s) (fun k => Z (ix3 0 s k)) (AllNear Y Q) r 1 := by
  have hn := norm_apply X Y Q Z hXY s r
  have hs := sin_apply X Y Q Z hXY s r
  have hx := order_x X Y Q Z hXY s r
  pointwise [k0_pay70, k0_pay69, k0_pay61] at hn hs hx ⊢
  rw [hn, hs, hx, mul_assoc]
  exact congrArg _ (mul_recip _ (len'_pos (ordered (pts Y) (qry Q s) (fun k => Z (ix3 0 s k)) r)).ne')
theorem vec_y (s : Fin 128) (r : Fin 32) : k0_pay71 (tile5 X Y Q Z).v244 (tile5 X Y Q Z).v253 (tileSin X Y Q Z) (ix2 s r)
    = result (pts Y) (qry Q s) (fun k => Z (ix3 0 s k)) (AllNear Y Q) r 2 := by
  have hn := norm_apply X Y Q Z hXY s r
  have hs := sin_apply X Y Q Z hXY s r
  have hx := order_y X Y Q Z hXY s r
  pointwise [k0_pay71, k0_pay69, k0_pay61] at hn hs hx ⊢
  rw [hn, hs, hx, mul_assoc]
  exact congrArg _ (mul_recip _ (len'_pos (ordered (pts Y) (qry Q s) (fun k => Z (ix3 0 s k)) r)).ne')
theorem vec_z (s : Fin 128) (r : Fin 32) : k0_pay72 (tile5 X Y Q Z).v248 (tile5 X Y Q Z).v253 (tileSin X Y Q Z) (ix2 s r)
    = result (pts Y) (qry Q s) (fun k => Z (ix3 0 s k)) (AllNear Y Q) r 3 := by
  have hn := norm_apply X Y Q Z hXY s r
  have hs := sin_apply X Y Q Z hXY s r
  have hx := order_z X Y Q Z hXY s r
  pointwise [k0_pay72, k0_pay69, k0_pay61] at hn hs hx ⊢
  rw [hn, hs, hx, mul_assoc]
  exact congrArg _ (mul_recip _ (len'_pos (ordered (pts Y) (qry Q s) (fun k => Z (ix3 0 s k)) r)).ne')

end

/-! ## The channels -/

section
variable (q : FVec Ideal S128x32 .f32) (s : Fin 128) (k : Fin 32)

/-- Two ways to say which neighbour comes to place `k` after a turn by `m` places. -/
theorem wrap (m : ℕ) (n : ℕ) (hn : m + n = 32) (ha : k < n → m + k < 32) (hb : ¬ k.val < n → k - n < 32) :
    (if h : k < n then q (ix2 s ⟨m + k, ha h⟩) else q (ix2 s ⟨k - n, hb h⟩)) = q (ix2 s ⟨(k + m) % 32, by omega⟩) := by
  split <;> (congr 2; refine Fin.ext ?_; simp only; omega)

theorem turn0 : k0_pay73 q (ix4 0 0 s k) = q (ix2 s ⟨(k + 0) % 32, by omega⟩) := by
  pointwise [k0_pay73]; congr 2; refine Fin.ext ?_; simp only; omega
theorem turn1 : k0_pay74 q (ix4 0 0 s k) = q (ix2 s ⟨(k + 1) % 32, by omega⟩) := by
  pointwise [k0_pay74]; exact wrap q s k 1 31 rfl (by omega) (by omega)
theorem turn2 : k0_pay76 (k0_pay75 q) (ix4 0 0 s k) = q (ix2 s ⟨(k + 2) % 32, by omega⟩) := by
  pointwise [k0_pay76, k0_pay75]; exact wrap q s k 2 30 rfl (by omega) (by omega)
theorem turn3 : k0_pay77 q (ix4 0 0 s k) = q (ix2 s ⟨(k + 3) % 32, by omega⟩) := by
  pointwise [k0_pay77]; exact wrap q s k 3 29 rfl (by omega) (by omega)
theorem turn4 : k0_pay78 q (ix4 0 0 s k) = q (ix2 s ⟨(k + 4) % 32, by omega⟩) := by
  pointwise [k0_pay78]; exact wrap q s k 4 28 rfl (by omega) (by omega)
theorem turn5 : k0_pay79 q (ix4 0 0 s k) = q (ix2 s ⟨(k + 5) % 32, by omega⟩) := by
  pointwise [k0_pay79]; exact wrap q s k 5 27 rfl (by omega) (by omega)
theorem turn6 : k0_pay80 q (ix4 0 0 s k) = q (ix2 s ⟨(k + 6) % 32, by omega⟩) := by
  pointwise [k0_pay80]; exact wrap q s k 6 26 rfl (by omega) (by omega)
theorem turn7 : k0_pay81 q (ix4 0 0 s k) = q (ix2 s ⟨(k + 7) % 32, by omega⟩) := by
  pointwise [k0_pay81]; exact wrap q s k 7 25 rfl (by omega) (by omega)

end

/-- The output block of the quaternions `R`: channel `8 c + m` holds quaternion channel `c` turned by `m` places. -/
def chan (R : Fin 128 → Fin 32 → Fin 4 → EReal) (y : S1x32x128x32.Idx) : EReal :=
  R ⟨(y 2).val, (y 2).isLt⟩ ⟨((y 3).val + (y 1).val % 8) % 32, by omega⟩
    ⟨(y 1).val / 8, Nat.div_lt_of_lt_mul (show (y 1).val < 8 * 4 from (y 1).isLt)⟩

theorem piece_apply (R : Fin 128 → Fin 32 → Fin 4 → EReal) (c : Fin 4) (m : ℕ) (hm : m < 8) (q : FVec Ideal S128x32 .f32)
    (hq : ∀ s k, q (ix2 s k) = R s k c) (v : FVec Ideal S1x1x128x32 .f32)
    (hv : ∀ s k, v (ix4 0 0 s k) = q (ix2 s ⟨(k.val + m) % 32, by omega⟩)) (off : Fin 4 → ℕ) (hoff : off = ![0, 8 * c + m, 0, 0])
    (inb : ∀ a, off a + S1x1x128x32.size a ≤ S1x32x128x32.size a) (x : S1x1x128x32.Idx) :
    v x = chan R ((Rect.unit (s := S1x32x128x32) off S1x1x128x32.size inb).emb x) := by
  subst hoff
  idx_vars x
  obtain rfl : x0 = 0 := Subsingleton.elim _ _
  obtain rfl : x1 = 0 := Subsingleton.elim _ _
  rw [hv, hq]
  have e1 : (((Rect.unit (s := S1x32x128x32) ![0, 8 * c.val + m, 0, 0] S1x1x128x32.size inb).emb (ix4 0 0 x2 x3)) 1).val = 8 * c + m := by
    show 8 * c.val + m + 1 * 0 = _
    omega
  have e2 : (((Rect.unit (s := S1x32x128x32) ![0, 8 * c.val + m, 0, 0] S1x1x128x32.size inb).emb (ix4 0 0 x2 x3)) 2).val = x2 := by
    show 0 + 1 * x2.val = _
    omega
  have e3 : (((Rect.unit (s := S1x32x128x32) ![0, 8 * c.val + m, 0, 0] S1x1x128x32.size inb).emb (ix4 0 0 x2 x3)) 3).val = x3 := by
    show 0 + 1 * x3.val = _
    omega
  unfold chan
  have a1 : (⟨(x3.val + m) % 32, by omega⟩ : Fin 32) = ⟨((Rect.unit (s := S1x32x128x32) ![0, 8 * c.val + m, 0, 0] S1x1x128x32.size inb).emb (ix4 0 0 x2 x3) 3
      + ((Rect.unit (s := S1x32x128x32) ![0, 8 * c.val + m, 0, 0] S1x1x128x32.size inb).emb (ix4 0 0 x2 x3) 1).val % 8) % 32, by omega⟩ := by
    refine Fin.ext ?_
    show _ = (_ + _ % 8) % 32
    rw [e1, e3]; show (x3.val + m) % 32 = _; congr 2; omega
  have a2 : c = ⟨((Rect.unit (s := S1x32x128x32) ![0, 8 * c.val + m, 0, 0] S1x1x128x32.size inb).emb (ix4 0 0 x2 x3) 1).val / 8, by omega⟩ := by
    refine Fin.ext ?_
    show _ = _ / 8
    rw [e1]; omega
  have a0 : x2 = ⟨((Rect.unit (s := S1x32x128x32) ![0, 8 * c.val + m, 0, 0] S1x1x128x32.size inb).emb (ix4 0 0 x2 x3) 2).val, by omega⟩ :=
    Fin.ext e2.symm
  exact congr (congr (congrArg R a0) a1) a2

theorem tile_out (R : Fin 128 → Fin 32 → Fin 4 → EReal) (ct q1 q2 q3 : FVec Ideal S128x32 .f32)
    (h0 : ∀ s k, ct (ix2 s k) = R s k 0) (h1 : ∀ s k, q1 (ix2 s k) = R s k 1) (h2 : ∀ s k, q2 (ix2 s k) = R s k 2)
    (h3 : ∀ s k, q3 (ix2 s k) = R s k 3) :
    ∀ p ∈ pieces ct q1 q2 q3, ∀ x : p.1.shape.Idx, p.2 x = chan R (p.1.emb x) := by
  unfold pieces
  simp only [List.forall_mem_cons]
  exact ⟨piece_apply R 3 7 (by omega) q3 h3 _ (turn7 q3) _ rfl _, piece_apply R 3 6 (by omega) q3 h3 _ (turn6 q3) _ rfl _,
    piece_apply R 3 5 (by omega) q3 h3 _ (turn5 q3) _ rfl _, piece_apply R 3 4 (by omega) q3 h3 _ (turn4 q3) _ rfl _,
    piece_apply R 3 3 (by omega) q3 h3 _ (turn3 q3) _ rfl _, piece_apply R 3 2 (by omega) q3 h3 _ (turn2 q3) _ rfl _,
    piece_apply R 3 1 (by omega) q3 h3 _ (turn1 q3) _ rfl _, piece_apply R 3 0 (by omega) q3 h3 _ (turn0 q3) _ rfl _,
    piece_apply R 2 7 (by omega) q2 h2 _ (turn7 q2) _ rfl _, piece_apply R 2 6 (by omega) q2 h2 _ (turn6 q2) _ rfl _,
    piece_apply R 2 5 (by omega) q2 h2 _ (turn5 q2) _ rfl _, piece_apply R 2 4 (by omega) q2 h2 _ (turn4 q2) _ rfl _,
    piece_apply R 2 3 (by omega) q2 h2 _ (turn3 q2) _ rfl _, piece_apply R 2 2 (by omega) q2 h2 _ (turn2 q2) _ rfl _,
    piece_apply R 2 1 (by omega) q2 h2 _ (turn1 q2) _ rfl _, piece_apply R 2 0 (by omega) q2 h2 _ (turn0 q2) _ rfl _,
    piece_apply R 1 7 (by omega) q1 h1 _ (turn7 q1) _ rfl _, piece_apply R 1 6 (by omega) q1 h1 _ (turn6 q1) _ rfl _,
    piece_apply R 1 5 (by omega) q1 h1 _ (turn5 q1) _ rfl _, piece_apply R 1 4 (by omega) q1 h1 _ (turn4 q1) _ rfl _,
    piece_apply R 1 3 (by omega) q1 h1 _ (turn3 q1) _ rfl _, piece_apply R 1 2 (by omega) q1 h1 _ (turn2 q1) _ rfl _,
    piece_apply R 1 1 (by omega) q1 h1 _ (turn1 q1) _ rfl _, piece_apply R 1 0 (by omega) q1 h1 _ (turn0 q1) _ rfl _,
    piece_apply R 0 7 (by omega) ct h0 _ (turn7 ct) _ rfl _, piece_apply R 0 6 (by omega) ct h0 _ (turn6 ct) _ rfl _,
    piece_apply R 0 5 (by omega) ct h0 _ (turn5 ct) _ rfl _, piece_apply R 0 4 (by omega) ct h0 _ (turn4 ct) _ rfl _,
    piece_apply R 0 3 (by omega) ct h0 _ (turn3 ct) _ rfl _, piece_apply R 0 2 (by omega) ct h0 _ (turn2 ct) _ rfl _,
    piece_apply R 0 1 (by omega) ct h0 _ (turn1 ct) _ rfl _, piece_apply R 0 0 (by omega) ct h0 _ (turn0 ct) _ rfl _,
    fun _ h => absurd h List.not_mem_nil⟩

/-- The tile's output block. -/
theorem tileOut_eq (X : Vec Ideal S1x3x8192 .f32) (Y : Vec Ideal S1x8192x3 .f32) (Q : Vec Ideal S1x128x3 .f32) (Z : Vec Ideal S1x128x32 .f32)
    (hXY : ∀ a n, X (ix3 0 a n) = Y (ix3 0 n a)) :
    tileOut X Y Q Z = chan fun s => result (pts Y) (qry Q s) (fun k => Z (ix3 0 s k)) (AllNear Y Q) := by
  unfold tileOut
  funext y
  exact View.read_writes_apply_of_pieces _ _ _ _ (tile_out _ _ _ _ _ (cos_apply X Y Q Z hXY) (vec_x X Y Q Z hXY)
    (vec_y X Y Q Z hXY) (vec_z X Y Q Z hXY)) y (pieces_cover _ _ _ _ y)

end Cert.Proof.Run

end
-- ==== Proof.Value.lean ====
/- The kernel's output array, at an index: each grid point's blocks are rows of the arguments, and its output block is the
   tile's, so every element is the ball query's result on its own batch and query. -/
module

public import proofs.«01_k».proof.Proof.Stores
public import Idealize.ShloMosaic.Lib.Pipeline.ValueKit

@[expose] public section

set_option maxRecDepth 16384

noncomputable section

namespace Cert.Proof.Run

open Cert.KernelIdeal Cert.KernelIdeal.Gen
open Idealize.ShloMosaic Idealize.ShloMosaic.TcCoe

open Cert.Proof.Spec
open scoped Classical

/-- Which block of its array each window is on: the batch is the point's quotient by 8, the run of queries its remainder. -/
theorem index_at : ∀ t : Fin (cfg0 (F := Ideal)).N, win0_0.index t = ![t.val / 8, 0, 0] ∧ win0_1.index t = ![t.val / 8, 0, 0]
    ∧ win0_2.index t = ![t.val / 8, t.val % 8, 0] ∧ win0_3.index t = ![t.val / 8, t.val % 8, 0]
    ∧ win0_4.index t = ![t.val / 8, 0, t.val % 8, 0] :=
  (by decide +kernel : ∀ t : Fin grid0.N, _)

variable (m : (ℓ : Loc nD τ sig) → Buf (Elt Ideal) ℓ) (c : Dev nD)

/-- The points, the queries and the fill-in angles, as launched. -/
def ptsA : FVec Ideal S8x8192x3 .f32 := m ((c : Thread nD τ).loc main_arg0)
def qryA : FVec Ideal S8x1024x3 .f32 := m ((c : Thread nD τ).loc main_arg1)
def wgtA : FVec Ideal S8x1024x32 .f32 := m ((c : Thread nD τ).loc main_arg2)

/-- The host's one operation hands the kernel the points with coordinates first. -/
theorem V_main_v0 : V m c main_v0 = transpose S8x3x8192 [0, 2, 1] (ptsA m c) transposes_S8x8192x3_S8x3x8192_0_2_1 := by
  unfold V hostOps0
  after_results
  rfl

/-- The grid point of a batch and a query. -/
def pointOf (b : Fin 8) (s : Fin 1024) : Fin (cfg0 (F := Ideal)).N := ⟨8 * b.val + s.val / 128, (by omega : 8 * b.val + s.val / 128 < 64)⟩

theorem point_div (b : Fin 8) (s : Fin 1024) : (pointOf b s).val / 8 = b.val := by unfold pointOf; simp only; omega
theorem point_mod (b : Fin 8) (s : Fin 1024) : (pointOf b s).val % 8 = s.val / 128 := by unfold pointOf; simp only; omega

theorem block0 (b : Fin 8) (s : Fin 1024) (a : Fin 3) (n : Fin 8192) :
    (iblk m c 0 (pointOf b s) : Vec Ideal S1x3x8192 .f32) (ix3 0 a n) = ptsA m c (ix3 b n a) := by
  have e := (index_at (pointOf b s)).1
  rw [point_div] at e
  have h : (iblk m c 0 (pointOf b s) : Vec Ideal S1x3x8192 .f32) (ix3 0 a n) = (V m c main_v0 : FVec Ideal S8x3x8192 .f32) (ix3 b a n) := by
    blk_ext [iblk, e]
  rw [h, V_main_v0]
  pointwise

theorem block1 (b : Fin 8) (s : Fin 1024) (a : Fin 3) (n : Fin 8192) :
    (iblk m c 1 (pointOf b s) : Vec Ideal S1x8192x3 .f32) (ix3 0 n a) = ptsA m c (ix3 b n a) := by
  have e := (index_at (pointOf b s)).2.1
  rw [point_div] at e
  have h : (iblk m c 1 (pointOf b s) : Vec Ideal S1x8192x3 .f32) (ix3 0 n a) = (V m c main_arg0 : FVec Ideal S8x8192x3 .f32) (ix3 b n a) := by
    blk_ext [iblk, e]
  rw [h, V_main_arg0]; rfl

theorem block2 (b : Fin 8) (s : Fin 1024) (a : Fin 3) (x : Fin 128) :
    (iblk m c 2 (pointOf b s) : Vec Ideal S1x128x3 .f32) (ix3 0 x a) = qryA m c (ix3 b ⟨s.val / 128 * 128 + x.val, by omega⟩ a) := by
  have e := (index_at (pointOf b s)).2.2.1
  rw [point_div, point_mod] at e
  have h : (iblk m c 2 (pointOf b s) : Vec Ideal S1x128x3 .f32) (ix3 0 x a)
      = (V m c main_arg1 : FVec Ideal S8x1024x3 .f32) (ix3 b ⟨s.val / 128 * 128 + x.val, by omega⟩ a) := by
    blk_ext [iblk, e]
  rw [h, V_main_arg1]; rfl

theorem block3 (b : Fin 8) (s : Fin 1024) (k : Fin 32) (x : Fin 128) :
    (iblk m c 3 (pointOf b s) : Vec Ideal S1x128x32 .f32) (ix3 0 x k) = wgtA m c (ix3 b ⟨s.val / 128 * 128 + x.val, by omega⟩ k) := by
  have e := (index_at (pointOf b s)).2.2.2.1
  rw [point_div, point_mod] at e
  have h : (iblk m c 3 (pointOf b s) : Vec Ideal S1x128x32 .f32) (ix3 0 x k)
      = (V m c main_arg2 : FVec Ideal S8x1024x32 .f32) (ix3 b ⟨s.val / 128 * 128 + x.val, by omega⟩ k) := by
    blk_ext [iblk, e]
  rw [h, V_main_arg2]; rfl

/-- The kernel's output array after the run. -/
def arrOut : FVec Ideal S8x32x1024x32 .f32 := (dats m 0 c).arrAt 4 (cfg0 (F := Ideal)).N

/-- An element of it is the one its grid point's tile holds. -/
theorem arrOut_block (b : Fin 8) (ch : Fin 32) (s : Fin 1024) (k : Fin 32) :
    arrOut m c (ix4 b ch s k) = outsAt m c (pointOf b s) (ix4 0 ch ⟨s.val % 128, by omega⟩ k) := by
  have e := (index_at (pointOf b s)).2.2.2.2
  rw [point_div, point_mod] at e
  have h := congrFun (blocks4 m c (pointOf b s)) (ix4 0 ch ⟨s.val % 128, by omega⟩ k)
  refine Eq.trans ?_ h
  unfold arrOut
  blk_ext [e]

theorem run_start (s : Fin 1024) : (⟨s.val / 128 * 128 + s.val % 128, by omega⟩ : Fin 1024) = s := Fin.ext (Nat.div_add_mod' _ _)

/-- The kernel's output, at an index. -/
theorem arrOut_apply (b : Fin 8) (ch : Fin 32) (s : Fin 1024) (k : Fin 32) :
    arrOut m c (ix4 b ch s k) = result (fun n a => ptsA m c (ix3 b n a)) (fun a => qryA m c (ix3 b s a))
      (fun k => wgtA m c (ix3 b s k))
      (∀ x : Fin 128, 0 < cnt (fun n a => ptsA m c (ix3 b n a)) (fun a => qryA m c (ix3 b ⟨s.val / 128 * 128 + x.val, by omega⟩ a)) 8192)
      ⟨(k + ch % 8) % 32, by omega⟩ ⟨ch / 8, by omega⟩ := by
  rw [arrOut_block]
  unfold outsAt
  rw [tileOut_eq _ _ _ _ (fun a n => (block0 m c b s a n).trans (block1 m c b s a n).symm)]
  have hp : pts (iblk m c 1 (pointOf b s)) = fun n a => ptsA m c (ix3 b n a) := funext fun n => funext fun a => block1 m c b s a n
  have hq : ∀ x : Fin 128, qry (iblk m c 2 (pointOf b s)) x = fun a => qryA m c (ix3 b ⟨s.val / 128 * 128 + x.val, by omega⟩ a) :=
    fun x => funext fun a => block2 m c b s a x
  have hw : ∀ x : Fin 128, (fun k => (iblk m c 3 (pointOf b s) : Vec Ideal S1x128x32 .f32) (ix3 0 x k))
      = fun k => wgtA m c (ix3 b ⟨s.val / 128 * 128 + x.val, by omega⟩ k) := fun x => funext fun k => block3 m c b s k x
  unfold chan AllNear
  simp only [hp, hq]
  have hs := run_start s
  show result _ (fun a => qryA m c (ix3 b ⟨s.val / 128 * 128 + s.val % 128, _⟩ a))
    (fun k => (iblk m c 3 (pointOf b s) : Vec Ideal S1x128x32 .f32) (ix3 0 ⟨s.val % 128, _⟩ k)) _ _ _ = _
  rw [hw, hs]
  rfl

end Cert.Proof.Run

end
-- ==== Proof.Rank.lean ====
/- Sorting positions by a key: the stable order is the key's order with ties by position, and the element sent to place `r` is
   the one with `r` elements before it. -/
module

public import Idealize.ShloMosaic.Lib.SortPrefix

@[expose] public section
noncomputable section
namespace Cert.Proof.Rank
open Idealize.ShloMosaic
open scoped Classical

variable {n : ℕ} {K : Type} [DecidableEq K] (lt : K → K → Bool) (key : Fin n → K)

/-- The order of the positions by key, ties by position. -/
def tied (k k' : Fin n) : Bool := lt (key k) (key k') || (decide (key k = key k') && decide (k < k'))

/-- On a list of increasing positions, the stable order by key is the order with ties by position. -/
theorem stable_tied : ∀ l : List (Fin n), l.Pairwise (· < ·) →
    stableSort (fun k k' => lt (key k) (key k')) l = stableSort (tied lt key) l
  | [], _ => rfl
  | a :: l, h => by
    have hl := stable_tied l (List.pairwise_cons.mp h).2
    change insertBefore _ a (stableSort _ l) = insertBefore _ a (stableSort _ l)
    rw [hl]
    refine insertBefore_congr _ _ a _ fun b hb => ?_
    have hb' : a < b := (List.pairwise_cons.mp h).1 b ((perm_stableSort _ l).mem_iff.mp hb)
    simp [tied, not_lt.mpr hb'.le]

theorem sorted_tied : sortedFrom (fun k k' => lt (key k) (key k')) = sortedFrom (tied lt key) := by
  funext k
  have aux : ∀ (l l' : List (Fin n)) (_ : l = l') (e : n = l.length) (e' : n = l'.length),
      l.get (Fin.cast e k) = l'.get (Fin.cast e' k) := by
    rintro l _ rfl _ _; rfl
  exact aux _ _ (stable_tied lt key (List.finRange n) (List.pairwise_lt_finRange n)) _ _

/-- The number of positions before the one sent to place `k` is `k`. -/
theorem card_before {B : Fin n → Fin n → Bool} (hB : StrictTotalBefore B) (k : Fin n) :
    (Finset.univ.filter fun m => B m (sortedFrom B k) = true).card = k.val := by
  have hs : ∀ i j : Fin n, B (sortedFrom B i) (sortedFrom B j) = true ↔ i < j := by
    have hlt : ∀ i j : Fin n, i < j → B (sortedFrom B i) (sortedFrom B j) = true := by
      intro i j h
      have hne : sortedFrom B i ≠ sortedFrom B j := fun e => h.ne (sortedFrom_injective B e)
      rcases hB.total _ _ hne with h' | h'
      · exact h'
      · have := sortedFrom_noInversion B B (fun a b h => hB.asymm a b h) (fun _ _ h => h) hB.negTrans i j h
        simp [this] at h'
    refine fun i j => ⟨fun h => ?_, hlt i j⟩
    rcases lt_trichotomy i j with h' | rfl | h'
    · exact h'
    · simp [hB.irrefl] at h
    · simp [hB.asymm _ _ (hlt j i h')] at h
  have hk : (Finset.univ.filter fun i : Fin n => i < k).card = k.val := by
    rw [Finset.filter_gt_eq_Iio, Fin.card_Iio]
  rw [← hk]
  refine (Finset.card_bij (fun i _ => sortedFrom B i) (fun i hi => ?_) (fun i _ j _ h => sortedFrom_injective B h) fun m hm => ?_).symm
  · simpa [hs] using hi
  · obtain ⟨i, rfl⟩ := sortedFrom_surjective B m
    exact ⟨i, by simpa [hs] using hm, rfl⟩

theorem sorted_eq {B : Fin n → Fin n → Bool} (hB : StrictTotalBefore B) (k m : Fin n)
    (h : (Finset.univ.filter fun j => B j m = true).card = k.val) : sortedFrom B k = m := by
  obtain ⟨i, rfl⟩ := sortedFrom_surjective B m
  rw [card_before hB] at h
  rw [Fin.ext h]

end Cert.Proof.Rank

end
end
-- ==== Proof.RefSearch.lean ====
/- The reference's search and grouping, at an index: the near points, their number, the picked indices and the relative
   coordinates of a query's neighbours. -/
module

public import proofs.«01_k».proof.Proof.Spec
public import proofs.«01_k».proof.Proof.Rank
public import proofs.«01_k».proof.Proof.Gen.ReferenceIdeal.Run
public import Idealize.ShloMosaic.Lib.Tactic.CleanTypes
public import Idealize.ShloMosaic.Lib.ReduceAll
public import Idealize.ShloMosaic.Lib.Routing.Count
public import Idealize.ShloMosaic.Lib.StableHlo.Predicate

@[expose] public section

set_option maxRecDepth 16384

noncomputable section

namespace Cert.Proof.Ref

open Cert.ReferenceIdeal Cert.ReferenceIdeal.Gen Cert.ReferenceIdeal.Value Idealize.ShloMosaic.TcCoe
open Idealize.ShloMosaic

open Cert.Proof.Spec
open scoped Classical
variable (V : Valuation τ sig (Elt Ideal))
/-- The points, the queries and the angle numbers. -/
def pts (b : Fin 8) (n : Fin 8192) : Vec3 := fun a => V (Proc.devRef .tc main_arg0) (ix3 b n a)
def qry (b : Fin 8) (s : Fin 1024) : Vec3 := fun a => V (Proc.devRef .tc main_arg1) (ix3 b s a)
def wgt (b : Fin 8) (s : Fin 1024) (k : Fin 32) : EReal := V (Proc.devRef .tc main_arg2) (ix3 b s k)

/-! ## The near points and their number -/

theorem near_bit (b : Fin 8) (s : Fin 1024) (n : Fin 8192) :
    res_main_v8 V (ix3 b s n) = BitVec.ofBool (decide (near (pts V b) (qry V b s) n)) := by
  pointwise [res_main_v8, res_main_v4]
  rw [Fin.sum_univ_three]
  congr 2
  exact propext ⟨fun h => ⟨n.isLt, h⟩, fun ⟨_, h⟩ => h⟩

theorem key_apply (b : Fin 8) (s : Fin 1024) (n : Fin 8192) : res_main_v12 V (ix3 b s n)
    = if near (pts V b) (qry V b s) n then -BitVec.ofNat 32 n else -8192#32 := by
  have h := near_bit V b s n
  pointwise [res_main_v12] at h ⊢
  rw [h]
  by_cases hn : near (pts V b) (qry V b s) n <;> simp [hn, Scalar.select] <;> rfl

theorem cnt_lt (x : Fin 8192 → Vec3) (q : Vec3) : cnt x q 8192 < 8193 := by
  have := Nat.count_le (p := near x q) (n := 8192)
  unfold cnt; omega

theorem count_apply (b : Fin 8) (s : Fin 1024) : res_main_v15 V (ix3 b s 0) = BitVec.ofNat 32 (cnt (pts V b) (qry V b s) 8192) := by
  unfold res_main_v15
  clean_types
  pointwise
  have e : ∑ x : Fin 8192, (BitVec.setWidth 32 (res_main_v8 V (ix3 b s x))).toNat = cnt (pts V b) (qry V b s) 8192 := by
    unfold cnt
    rw [← Routing.card_filter_fin, Finset.card_filter]
    refine Finset.sum_congr rfl fun x _ => ?_
    rw [near_bit, StableHlo.Predicate.toNat_setWidth_bit]
    by_cases hn : near (pts V b) (qry V b s) x <;> simp [hn]
  have hc := cnt_lt (pts V b) (qry V b s)
  apply BitVec.eq_of_toNat_eq
  rw [StableHlo.Predicate.toNat_fold_addi _ _ (by rw [e]; omega), e, BitVec.toNat_ofNat, Nat.mod_eq_of_lt (by omega)]

/-! ## The picked indices -/

/-- Signed greater, the order of the selection. -/
def gt (a b : BitVec 32) : Bool := IntOp.cmpi .sgt a b == 1#1

theorem gt_iff (a b : BitVec 32) : gt a b = true ↔ b.toInt < a.toInt := by
  unfold gt
  simp only [IntOp.cmpi]
  rw [BitVec.slt_eq_decide]
  by_cases h : b.toInt < a.toInt <;> simp [h]

theorem gt_total (key : Fin 8192 → BitVec 32) : StrictTotalBefore (Rank.tied gt key) := by
  refine StrictTotalBefore.of_key_then_position gt key (fun a => ?_) (fun a b c => ?_) (fun a b => ?_)
  · rw [Bool.eq_false_iff, ne_eq, gt_iff]; omega
  · rw [gt_iff, gt_iff, gt_iff]; omega
  · rw [gt_iff, gt_iff]
    rcases lt_trichotomy a.toInt b.toInt with h | h | h
    · exact Or.inr (Or.inr h)
    · exact Or.inr (Or.inl (BitVec.eq_of_toInt_eq h))
    · exact Or.inl h

theorem index_sorted (b : Fin 8) (s : Fin 1024) (k : Fin 33) : res_main_indices V (ix3 b s k)
    = BitVec.ofNat 32 (sortedFrom (fun m m' => gt (res_main_v12 V (ix3 b s m)) (res_main_v12 V (ix3 b s m'))) ⟨k, by omega⟩).val := by
  have h : ∀ m, Shape.Idx.along (s := S8x1024x8192) (ix3 b s ⟨k, by omega⟩) 2 m = ix3 b s m := fun m => by
    funext c; fin_cases c <;> rfl
  have e : (fun a : Fin 3 => (⟨0 + (ix3 b s k (a.cast rfl)).val, by fin_cases a <;> simp <;> omega⟩ : Fin (S8x1024x8192.size a)))
      = (ix3 b s ⟨k, by omega⟩ : S8x1024x8192.Idx) := by
    funext c; refine Fin.ext ?_; fin_cases c <;> simp
  have g : res_main_indices V (ix3 b s k)
    = (Host.sort2 S8x1024x8192 2 (fun l r => IntOp.cmpi .sgt l.1 r.1) (res_main_v12 V) (iotaInDim S8x1024x8192 32 2)).2 (ix3 b s ⟨k, by omega⟩) := by
    rw [← e]; rfl
  rw [g]
  show BitVec.ofNat 32 (Shape.Idx.along (s := S8x1024x8192) (ix3 b s ⟨k, by omega⟩) 2 (sortedFrom (fun m m' =>
    gt (res_main_v12 V (Shape.Idx.along (s := S8x1024x8192) (ix3 b s ⟨k, by omega⟩) 2 m))
      (res_main_v12 V (Shape.Idx.along (s := S8x1024x8192) (ix3 b s ⟨k, by omega⟩) 2 m'))) (⟨k, by omega⟩ : Fin 8192)) 2).val = _
  simp only [h]
  rfl

theorem toInt_key {n : ℕ} (h : n ≤ 8192) : (-BitVec.ofNat 32 n).toInt = -n := by
  have e : (n : ℤ).bmod (2 ^ 32) = n := Int.bmod_eq_of_le (by omega) (by omega)
  rw [BitVec.toInt_neg, BitVec.toInt_ofNat', e, Int.bmod_eq_of_le (by omega) (by omega)]

/-- Signed less, of small natural numbers. -/
theorem slt_nat {m n : ℕ} (hm : m < 2 ^ 31) (hn : n < 2 ^ 31) :
    IntOp.cmpi CmpIPredicate.slt (BitVec.ofNat 32 m) (BitVec.ofNat 32 n) = BitVec.ofBool (decide (m < n)) := by
  simp only [IntOp.cmpi]
  congr 1
  rw [BitVec.slt_eq_decide, BitVec.toInt_ofNat', BitVec.toInt_ofNat', Int.bmod_eq_of_le (by omega) (by omega),
    Int.bmod_eq_of_le (by omega) (by omega)]
  simp

/-- The points that go before a near point in the selection are the near points of smaller index. -/
theorem before_card (x : Fin 8192 → Vec3) (q : Vec3) (m : Fin 8192) (hm : near x q m) :
    (Finset.univ.filter fun j : Fin 8192 =>
      (if near x q m then -BitVec.ofNat 32 m else -8192#32).toInt < (if near x q j then -BitVec.ofNat 32 j else -8192#32).toInt
        ∨ (if near x q j then -BitVec.ofNat 32 j else -8192#32) = (if near x q m then -BitVec.ofNat 32 m else -8192#32) ∧ j < m).card
      = cnt x q m := by
  have e : ∀ j : Fin 8192, ((if near x q m then -BitVec.ofNat 32 m else -8192#32).toInt < (if near x q j then -BitVec.ofNat 32 j else -8192#32).toInt
        ∨ (if near x q j then -BitVec.ofNat 32 j else -8192#32) = (if near x q m then -BitVec.ofNat 32 m else -8192#32) ∧ j < m)
      ↔ near x q j ∧ j.val < m.val := fun j => by
    have hM := toInt_key (n := m) (by omega)
    have hJ := toInt_key (n := j) (by omega)
    have hK := toInt_key (n := 8192) (by omega)
    rw [if_pos hm]
    by_cases hj : near x q j
    · rw [if_pos hj, hM, hJ]
      constructor
      · rintro (h | h)
        · exact ⟨hj, by omega⟩
        · exact ⟨hj, h.2⟩
      · rintro ⟨-, h⟩; exact Or.inl (by omega)
    · rw [if_neg hj, hM, hK]
      constructor
      · rintro (h | ⟨h, -⟩)
        · omega
        · have := congrArg BitVec.toInt h
          rw [hM, hK] at this; omega
      · rintro ⟨h, -⟩; exact absurd h hj
  simp only [e]
  unfold cnt
  rw [Nat.count_eq_card_filter_range]
  refine Finset.card_bij (fun j _ => j.val) (fun j hj => ?_) (fun _ _ _ _ h => Fin.ext h) (fun n hn => ?_)
  · simp only [Finset.mem_filter, Finset.mem_univ, true_and, Finset.mem_range] at hj ⊢
    exact ⟨hj.2, hj.1⟩
  · simp only [Finset.mem_filter, Finset.mem_range] at hn
    exact ⟨⟨n, by omega⟩, by simpa using ⟨hn.2, hn.1⟩, rfl⟩

/-- The selection's `k`-th index, where the query has more than `k` near points, or `k` is 0. -/
theorem index_apply (b : Fin 8) (s : Fin 1024) (k : Fin 33) (hk : k.val < cnt (pts V b) (qry V b s) 8192 ∨ k.val = 0) :
    res_main_indices V (ix3 b s k) = BitVec.ofNat 32 (kth (pts V b) (qry V b s) k) := by
  rw [index_sorted]
  refine congrArg (fun i : Fin 8192 => BitVec.ofNat 32 i.val) (?_ : _ = (⟨kth (pts V b) (qry V b s) k, kth_lt _ _ _⟩ : Fin 8192))
  rw [Rank.sorted_tied gt fun m => res_main_v12 V (ix3 b s m)]
  refine Rank.sorted_eq (gt_total _) _ _ ?_
  simp only [Rank.tied, Bool.or_eq_true, Bool.and_eq_true, decide_eq_true_eq, gt_iff, key_apply]
  generalize pts V b = x at *
  generalize qry V b s = q at *
  rcases Nat.lt_or_ge k.val (cnt x q 8192) with hk' | hk'
  · obtain ⟨h1, h2, h3⟩ := kth_near x q hk'
    exact (before_card x q ⟨kth x q k, h3⟩ h1).trans h2
  · obtain hk0 := hk.resolve_left (by omega)
    have hz : cnt x q 8192 = 0 := by omega
    have hn : ∀ n, ¬ near x q n := fun n h => by
      have := Nat.count_strict_mono h h.1
      unfold cnt at hz; omega
    have hk1 : (⟨kth x q k, kth_lt x q k⟩ : Fin 8192) = ⟨0, by omega⟩ := Fin.ext (by show kth x q k = 0; unfold kth; rw [dif_neg (fun ⟨n, h, _⟩ => hn n h)])
    simp only [hn, if_false, hk1]
    rw [hk0, Finset.card_eq_zero, Finset.filter_eq_empty_iff]
    rintro j - (h | h)
    · omega
    · exact absurd h.2 (Nat.not_lt_zero _)

/-- The `k`-th picked index. -/
theorem pick_apply (b : Fin 8) (s : Fin 1024) (k : Fin 33) : res_main_v22 V (ix3 b s k) = BitVec.ofNat 32 (pick (pts V b) (qry V b s) k) := by
  have hc := count_apply V b s
  have h0 := index_apply V b s 0 (Or.inr rfl)
  pointwise [res_main_v22] at hc h0 ⊢
  rw [hc, h0]
  have hl := cnt_lt (pts V b) (qry V b s)
  have e : IntOp.cmpi CmpIPredicate.slt (BitVec.ofNat 32 ↑k) (BitVec.ofNat 32 (cnt (pts V b) (qry V b s) 8192))
      = BitVec.ofBool (decide (k.val < cnt (pts V b) (qry V b s) 8192)) := slt_nat (by omega) (by omega)
  rw [e]
  unfold pick
  by_cases hk : k.val < cnt (pts V b) (qry V b s) 8192
  · rw [index_apply V b s k (Or.inl hk)]; simp [hk, Scalar.select]
  · simp [hk, Scalar.select]

/-! ## The neighbours -/

theorem gather_pts (x : FVec Ideal S8x3x8192 .f32) (i : IVec S8x1024x33x1 32) (b : Fin 8) (a : Fin 3) (s : Fin 1024) (k : Fin 33) (n : ℕ)
    (hn : n < 8192) (h : i (ix4 b s k 0) = BitVec.ofNat 32 n) :
    Host.gather gather_S8x3x8192_S8x1024x33x1_S8x3x1024x33_1_2_0_0_2_3_131 x i (ix4 b a s k) = x (ix3 b a ⟨n, hn⟩) := by
  have hs : gather_S8x3x8192_S8x1024x33x1_S8x3x1024x33_1_2_0_0_2_3_131.siIdx (ix4 b a s k) ⟨0, by decide⟩ = ix4 b s k 0 := by
    funext c; refine Fin.ext ?_; fin_cases c <;> rfl
  unfold Host.gather
  congr 1
  funext c
  refine Fin.ext ?_
  fin_cases c
  · show 0 + b.val + 0 = _; simp
  · show 0 + 0 + a.val = _; simp
  · show min (i (gather_S8x3x8192_S8x1024x33x1_S8x3x1024x33_1_2_0_0_2_3_131.siIdx (ix4 b a s k) ⟨0, by decide⟩)).toInt.toNat 8191 + 0 + 0 = n
    rw [hs, h, BitVec.toInt_ofNat', Int.bmod_eq_of_le (by omega) (by omega)]
    omega
theorem gather_nb (x : FVec Ideal S8x3x1024x32 .f32) (i : IVec S8x3x1024x32x1 32) (b : Fin 8) (a : Fin 3) (s : Fin 1024) (k : Fin 32) (n : ℕ)
    (hn : n < 32) (h : i (ix5 b a s k 0) = BitVec.ofNat 32 n) :
    Host.gather gather_S8x3x1024x32_S8x3x1024x32x1_S8x3x1024x32_n_3_012_012_3_4_1111 x i (ix4 b a s k) = x (ix4 b a s ⟨n, hn⟩) := by
  have hs : gather_S8x3x1024x32_S8x3x1024x32x1_S8x3x1024x32_n_3_012_012_3_4_1111.siIdx (ix4 b a s k) ⟨0, by decide⟩ = ix5 b a s k 0 := by
    funext c; refine Fin.ext ?_; fin_cases c <;> rfl
  unfold Host.gather
  congr 1
  funext c
  refine Fin.ext ?_
  fin_cases c
  · show 0 + b.val + 0 = _; simp
  · show 0 + a.val + 0 = _; simp
  · show 0 + s.val + 0 = _; simp
  · show min (i (gather_S8x3x1024x32_S8x3x1024x32x1_S8x3x1024x32_n_3_012_012_3_4_1111.siIdx (ix4 b a s k) ⟨0, by decide⟩)).toInt.toNat 31 + 0 + 0 = n
    rw [hs, h, BitVec.toInt_ofNat', Int.bmod_eq_of_le (by omega) (by omega)]
    omega

theorem query_apply (b : Fin 8) (s : Fin 1024) (a : Fin 3) : res_main_v33 V (ix4 b a s 0) = qry V b s a := by
  pointwise [res_main_v33]; rfl

/-- The neighbours' coordinates relative to the query. -/
theorem rel_apply (b : Fin 8) (s : Fin 1024) (a : Fin 3) (k : Fin 32) : res_main_v35 V (ix4 b a s k) = rel (pts V b) (qry V b s) k a := by
  have hq := query_apply V b s a
  have hp := pick_lt (pts V b) (qry V b s) (k + 1)
  pointwise [res_main_v35] at hq ⊢
  rw [hq, gather_pts _ _ b a s _ (pick (pts V b) (qry V b s) (k + 1)) hp]
  · pointwise; rfl
  · have h := pick_apply V b s ⟨1 + k, by omega⟩
    rw [Nat.add_comm] at hp
    simp only at h
    pointwise at h ⊢
    rw [h]
    have e : IntOp.cmpi CmpIPredicate.slt (BitVec.ofNat 32 (pick (pts V b) (qry V b s) (1 + k))) 0#32 = 0#1 := (slt_nat (n := 0) (by omega) (by omega)).trans (by simp)
    rw [e, Nat.add_comm]
    rfl

end Cert.Proof.Ref

end
-- ==== Proof.RefGeom.lean ====
/- The reference's geometry, at an index: the angle of each neighbour round the query's direction. -/
module

public import proofs.«01_k».proof.Proof.RefSearch

@[expose] public section

set_option maxRecDepth 16384

noncomputable section

namespace Cert.Proof.Ref

open Cert.ReferenceIdeal Cert.ReferenceIdeal.Gen Cert.ReferenceIdeal.Value Idealize.ShloMosaic.TcCoe
open Idealize.ShloMosaic

open Cert.Proof.Spec
open scoped Classical
variable (V : Valuation τ sig (Elt Ideal))

theorem dir_apply (b : Fin 8) (s : Fin 1024) (a : Fin 3) : res_main_v43 V (ix4 b a s 0) = unit (qry V b s) a := by
  have h := fun a => query_apply V b s a
  pointwise [res_main_v43]
  simp only [h, Fin.sum_univ_three]
  rfl
theorem dir2_apply (b : Fin 8) (s : Fin 1024) (a : Fin 3) : res_main_v51 V (ix4 b a s 0) = unit (unit (qry V b s)) a := by
  have h := fun a => dir_apply V b s a
  pointwise [res_main_v51]
  simp only [h, Fin.sum_univ_three]
  rfl
theorem dir2_apply' (b : Fin 8) (s : Fin 1024) (a : Fin 3) : res_main_v98 V (ix4 b a s 0) = unit (unit (qry V b s)) a := by
  have h := fun a => dir_apply V b s a
  pointwise [res_main_v98]
  simp only [h, Fin.sum_univ_three]
  rfl
theorem dir2_x (b : Fin 8) (s : Fin 1024) : res_main_v53 V (ix3 b s 0) = unit (unit (qry V b s)) 0 := by
  have h := dir2_apply V b s 0
  pointwise [res_main_v53] at h ⊢
  exact h
theorem dir2_y (b : Fin 8) (s : Fin 1024) : res_main_v55 V (ix3 b s 0) = unit (unit (qry V b s)) 1 := by
  have h := dir2_apply V b s 1
  pointwise [res_main_v55] at h ⊢
  exact h
theorem dir2_z (b : Fin 8) (s : Fin 1024) : res_main_v57 V (ix3 b s 0) = unit (unit (qry V b s)) 2 := by
  have h := dir2_apply V b s 2
  pointwise [res_main_v57] at h ⊢
  exact h
theorem side_x (b : Fin 8) (s : Fin 1024) : res_main_v81 V (ix4 b 0 s 0) = side (unit (unit (qry V b s))) 0 := by
  have hx := dir2_x V b s
  have hy := dir2_y V b s
  have hz := dir2_z V b s
  pointwise [res_main_v81, res_main_v60] at hx hy hz ⊢
  rw [hx, hy]
  unfold side
  rw [lit_one]
  generalize unit (unit (qry V b s)) = p
  split <;> rename_i h
  · rw [if_pos (show lit 0x3F7FBE77#32 < max (p 0) (-(p 0)) from h)]; rfl
  · rw [if_neg (show ¬ lit 0x3F7FBE77#32 < max (p 0) (-(p 0)) from h)]; rfl
theorem side_y (b : Fin 8) (s : Fin 1024) : res_main_v81 V (ix4 b 1 s 0) = side (unit (unit (qry V b s))) 1 := by
  have hx := dir2_x V b s
  have hy := dir2_y V b s
  have hz := dir2_z V b s
  pointwise [res_main_v81, res_main_v60] at hx hy hz ⊢
  rw [hx, hy]
  unfold side
  rw [lit_one]
  generalize unit (unit (qry V b s)) = p
  split <;> rename_i h
  · rw [if_pos (show lit 0x3F7FBE77#32 < max (p 0) (-(p 0)) from h)]; rfl
  · rw [if_neg (show ¬ lit 0x3F7FBE77#32 < max (p 0) (-(p 0)) from h)]; rfl
theorem side_z (b : Fin 8) (s : Fin 1024) : res_main_v81 V (ix4 b 2 s 0) = side (unit (unit (qry V b s))) 2 := by
  have hx := dir2_x V b s
  have hy := dir2_y V b s
  have hz := dir2_z V b s
  pointwise [res_main_v81, res_main_v60] at hx hy hz ⊢
  rw [hx, hy, hz]
  unfold side
  rw [lit_one]
  generalize unit (unit (qry V b s)) = p
  split <;> rename_i h
  · rw [if_pos (show lit 0x3F7FBE77#32 < max (p 0) (-(p 0)) from h)]; rfl
  · rw [if_neg (show ¬ lit 0x3F7FBE77#32 < max (p 0) (-(p 0)) from h)]; rfl
theorem side_apply (b : Fin 8) (s : Fin 1024) (a : Fin 3) : res_main_v81 V (ix4 b a s 0) = side (unit (unit (qry V b s))) a := by
  fin_cases a
  · exact side_x V b s
  · exact side_y V b s
  · exact side_z V b s
theorem zero_apply (b : Fin 8) (s : Fin 1024) (a : Fin 3) (k : Fin 32) : res_main_v90 V (ix4 b a s k) = zeroDir (qry V b s) a := by
  have h := fun a => side_apply V b s a
  pointwise [res_main_v90]
  simp only [h, Fin.sum_univ_three]
  rfl
theorem across_apply (b : Fin 8) (s : Fin 1024) (a : Fin 3) (k : Fin 32) :
    res_main_v106 V (ix4 b a s k) = across (unit (unit (qry V b s))) (rel (pts V b) (qry V b s) k) a := by
  have h := fun a => dir2_apply' V b s a
  have hr := fun a => rel_apply V b s a k
  pointwise [res_main_v106]
  simp only [h, hr, Fin.sum_univ_three]
  rfl
theorem heading_apply (b : Fin 8) (s : Fin 1024) (a : Fin 3) (k : Fin 32) :
    res_main_v114 V (ix4 b a s k) = heading (qry V b s) (rel (pts V b) (qry V b s) k) a := by
  have h := fun a => across_apply V b s a k
  pointwise [res_main_v114]
  simp only [h, Fin.sum_univ_three]
  rfl
theorem zero_x (b : Fin 8) (s : Fin 1024) (k : Fin 32) : res_main_v116 V (ix3 b s k) = zeroDir (qry V b s) 0 := by
  have h := zero_apply V b s 0 k
  pointwise [res_main_v116] at h ⊢
  exact h
theorem zero_y (b : Fin 8) (s : Fin 1024) (k : Fin 32) : res_main_v118 V (ix3 b s k) = zeroDir (qry V b s) 1 := by
  have h := zero_apply V b s 1 k
  pointwise [res_main_v118] at h ⊢
  exact h
theorem zero_z (b : Fin 8) (s : Fin 1024) (k : Fin 32) : res_main_v120 V (ix3 b s k) = zeroDir (qry V b s) 2 := by
  have h := zero_apply V b s 2 k
  pointwise [res_main_v120] at h ⊢
  exact h
theorem heading_x (b : Fin 8) (s : Fin 1024) (k : Fin 32) : res_main_v122 V (ix3 b s k) = heading (qry V b s) (rel (pts V b) (qry V b s) k) 0 := by
  have h := heading_apply V b s 0 k
  pointwise [res_main_v122] at h ⊢
  exact h
theorem heading_y (b : Fin 8) (s : Fin 1024) (k : Fin 32) : res_main_v124 V (ix3 b s k) = heading (qry V b s) (rel (pts V b) (qry V b s) k) 1 := by
  have h := heading_apply V b s 1 k
  pointwise [res_main_v124] at h ⊢
  exact h
theorem heading_z (b : Fin 8) (s : Fin 1024) (k : Fin 32) : res_main_v126 V (ix3 b s k) = heading (qry V b s) (rel (pts V b) (qry V b s) k) 2 := by
  have h := heading_apply V b s 2 k
  pointwise [res_main_v126] at h ⊢
  exact h

/-- The angles. -/
theorem angle_apply (b : Fin 8) (s : Fin 1024) (k : Fin 32) :
    res_main_v154 V (ix4 b 0 s k) = angles (pts V b) (qry V b s) (wgt V b s) k := by
  have h := fun a => heading_apply V b s a k
  have z := fun a => zero_apply V b s a k
  have d := fun a => dir_apply V b s a
  pointwise [res_main_v154]
  simp only [h, z, d, Fin.sum_univ_three, zero_x, zero_y, zero_z, heading_x, heading_y, heading_z]
  rfl

end Cert.Proof.Ref

end
-- ==== Proof.RefSort.lean ====
/- The reference's order, at an index: the neighbours in order of the angle. -/
module

public import proofs.«01_k».proof.Proof.RefGeom

@[expose] public section

set_option maxRecDepth 16384

noncomputable section

namespace Cert.Proof.Ref

open Cert.ReferenceIdeal Cert.ReferenceIdeal.Gen Cert.ReferenceIdeal.Value Idealize.ShloMosaic.TcCoe
open Idealize.ShloMosaic

open Cert.Proof.Spec
open scoped Classical
variable (V : Valuation τ sig (Elt Ideal))

/-! ## The order of the angles -/

/-- The comparator puts the smaller angle first. -/
theorem comp_iff (x y : EReal × BitVec 32) : comparator_f32_i32_d3 (F := Ideal) x y = 1#1 ↔ x.1 < y.1 := by
  have hu : ∀ a : EReal, FloatOps.cmpf (F := Ideal) (φ := .f32) CmpFPredicate.une a a = 0#1 := fun a => by
    change BitVec.ofBool (decide (a ≠ a)) = 0#1
    simp
  have ho : ∀ a : EReal, Scalar.select (FloatOps.cmpf (F := Ideal) (φ := .f32) CmpFPredicate.oeq a (0 : EReal)) (0 : EReal) a = a := fun a => by
    change Scalar.select (BitVec.ofBool (decide (a = 0))) (0 : EReal) a = a
    by_cases h : a = 0 <;> simp [h, Scalar.select]
  have hs : ∀ a b : EReal, Scalar.select 0#1 a b = b := fun _ _ => rfl
  have hz : FloatOps.ofBits (F := Ideal) FTy.f32 0#32 = (0 : EReal) := by simp
  unfold comparator_f32_i32_d3
  simp only [hz, hu, ho, hs]
  change BitVec.ofBool (decide (x.1 < y.1)) = 1#1 ↔ _
  by_cases h : x.1 < y.1 <;> simp [h]

/-- Less, as a test. -/
def less (a b : EReal) : Bool := decide (a < b)

theorem less_total (g : Fin 32 → EReal) : StrictTotalBefore (Rank.tied less g) := by
  refine StrictTotalBefore.of_key_then_position less g (fun a => ?_) (fun a b c => ?_) (fun a b => ?_)
  · simp [less]
  · simp only [less, decide_eq_true_eq]; exact lt_trans
  · simp only [less, decide_eq_true_eq]
    exact lt_trichotomy a b

/-- The neighbour that comes to place `r`. -/
def src (g : Fin 32 → EReal) (r : Fin 32) : Fin 32 := sortedFrom (Rank.tied less g) r

theorem place_tied (g : Fin 32 → EReal) (k : Fin 32) : (Finset.univ.filter fun j => Rank.tied less g j k = true).card = place g k := by
  unfold place
  congr 1
  refine Finset.filter_congr fun j _ => ?_
  simp [Rank.tied, less]

theorem place_iff (g : Fin 32 → EReal) (k r : Fin 32) : place g k = r.val ↔ k = src g r := by
  constructor
  · intro h
    exact (Rank.sorted_eq (less_total g) r k ((place_tied g k).trans h)).symm
  · intro h
    rw [h]
    exact (place_tied g _).symm.trans (Rank.card_before (less_total g) r)

/-- The neighbour at place `r` is the one the order takes there. -/
theorem ordered_src (x : Fin 8192 → Vec3) (q : Vec3) (w : Fin 32 → EReal) (r : Fin 32) (a : Fin 3) :
    ordered x q w r a = rel x q (src (angles x q w) r) a := by
  unfold ordered
  simp only [place_iff]
  rw [Finset.sum_eq_single (src (angles x q w) r)]
  · simp
  · intro k _ hk; simp [hk]
  · intro h; exact absurd (Finset.mem_univ _) h

/-- The sorted indices. -/
theorem sorted_apply (b : Fin 8) (s : Fin 1024) (a : Fin 3) (k : Fin 32) :
    res_main_v156 V (ix4 b a s k) = BitVec.ofNat 32 (src (angles (pts V b) (qry V b s) (wgt V b s)) k).val := by
  have h : ∀ m : Fin 32, Shape.Idx.along (s := S8x1x1024x32) (ix4 b 0 s k) 3 m = ix4 b 0 s m := fun m => by
    funext c
    match c with
    | ⟨0, _⟩ => rfl
    | ⟨1, _⟩ => rfl
    | ⟨2, _⟩ => rfl
    | ⟨3, _⟩ => rfl
  pointwise [res_main_v156, res_main_call6_v0]
  show BitVec.ofNat 32 (Shape.Idx.along (s := S8x1x1024x32) (ix4 b 0 s k) 3 (sortedFrom (fun m m' : Fin 32 =>
    comparator_f32_i32_d3 (F := Ideal)
      (res_main_v154 V (Shape.Idx.along (s := S8x1x1024x32) (ix4 b 0 s k) 3 m), iotaInDim S8x1x1024x32 32 3 (Shape.Idx.along (s := S8x1x1024x32) (ix4 b 0 s k) 3 m))
      (res_main_v154 V (Shape.Idx.along (s := S8x1x1024x32) (ix4 b 0 s k) 3 m'), iotaInDim S8x1x1024x32 32 3 (Shape.Idx.along (s := S8x1x1024x32) (ix4 b 0 s k) 3 m')) == 1#1) k) 3).val = _
  simp only [h]
  have e : (fun m m' : Fin 32 => comparator_f32_i32_d3 (F := Ideal) (res_main_v154 V (ix4 b 0 s m), iotaInDim S8x1x1024x32 32 3 (ix4 b 0 s m))
      (res_main_v154 V (ix4 b 0 s m'), iotaInDim S8x1x1024x32 32 3 (ix4 b 0 s m')) == 1#1)
      = fun m m' => less (angles (pts V b) (qry V b s) (wgt V b s) m) (angles (pts V b) (qry V b s) (wgt V b s) m') := by
    funext m m'
    rw [Bool.eq_iff_iff, beq_iff_eq, comp_iff, less, decide_eq_true_eq, angle_apply, angle_apply]
  rw [e]
  have f : ∀ n : Fin 32, (Shape.Idx.along (s := S8x1x1024x32) (ix4 b 0 s k) 3 n 3).val = n.val := fun n => rfl
  refine (congrArg (BitVec.ofNat 32) (f _)).trans ?_
  unfold src
  generalize angles (pts V b) (qry V b s) (wgt V b s) = g
  rw [← Rank.sorted_tied less g]
  rfl

/-- Signed at least, of small natural numbers. -/
theorem sge_nat {n : ℕ} (hn : n < 32) : IntOp.cmpi CmpIPredicate.sge (BitVec.ofNat 32 n) 0#32 = 1#1
    ∧ IntOp.cmpi CmpIPredicate.sle (BitVec.ofNat 32 n) 31#32 = 1#1 := by
  have e : (BitVec.ofNat 32 n).toInt = n := by
    rw [BitVec.toInt_ofNat', Int.bmod_eq_of_le (by omega) (by omega)]
  have h : (n : ℤ) ≤ 31 := by omega
  simp only [IntOp.cmpi]
  rw [BitVec.sle_eq_decide, BitVec.sle_eq_decide, e]
  constructor
  · simp
  · have : n ≤ 31 := by omega
    simp [this]

theorem index_wrapped (b : Fin 8) (s : Fin 1024) (a : Fin 3) (k : Fin 32) :
    res_main_call7_v5 V (ix5 b a s k 0) = BitVec.ofNat 32 (src (angles (pts V b) (qry V b s) (wgt V b s)) k).val := by
  have h := sorted_apply V b s a k
  pointwise [res_main_call7_v5] at h ⊢
  rw [h]
  generalize src (angles (pts V b) (qry V b s) (wgt V b s)) k = n
  rw [show IntOp.cmpi CmpIPredicate.slt (BitVec.ofNat 32 n.val) 0#32 = 0#1 from (slt_nat (n := 0) (by omega) (by omega)).trans (by simp)]
  rfl

/-- The neighbours in order. -/
theorem order_apply (b : Fin 8) (s : Fin 1024) (a : Fin 3) (k : Fin 32) :
    res_main_v157 V (ix4 b a s k) = ordered (pts V b) (qry V b s) (wgt V b s) k a := by
  have h := index_wrapped V b s a k
  rw [ordered_src, ← rel_apply, ← gather_nb (res_main_v35 V) (res_main_call7_v5 V) b a s k _ (src _ _).isLt h]
  unfold res_main_v157
  clean_types
  pointwise
  have e : Finset.fold IntOp.andi (1#1)
      (fun x : Fin 1 =>
        IntOp.andi (IntOp.cmpi CmpIPredicate.sge (res_main_call7_v5 V (ix5 b a s k x)) 0#32)
          (IntOp.cmpi CmpIPredicate.sle (res_main_call7_v5 V (ix5 b a s k x)) 31#32)) Finset.univ = 1#1 := by
    rw [Finset.univ_unique, Finset.fold_singleton]
    show IntOp.andi (IntOp.andi (IntOp.cmpi CmpIPredicate.sge (res_main_call7_v5 V (ix5 b a s k 0)) 0#32)
          (IntOp.cmpi CmpIPredicate.sle (res_main_call7_v5 V (ix5 b a s k 0)) 31#32)) 1#1 = 1#1
    rw [h, (sge_nat (src _ _).isLt).1, (sge_nat (src _ _).isLt).2]
    rfl
  rw [e]
  rfl

end Cert.Proof.Ref

end
-- ==== Proof.RefOut.lean ====
/- The reference's result, at an index: the quaternions of the ordered neighbours and their turned copies. -/
module

public import proofs.«01_k».proof.Proof.RefSort

@[expose] public section

set_option maxRecDepth 16384

noncomputable section

namespace Cert.Proof.Ref

open Cert.ReferenceIdeal Cert.ReferenceIdeal.Gen Cert.ReferenceIdeal.Value Idealize.ShloMosaic.TcCoe
open Idealize.ShloMosaic

open Cert.Proof.Spec
open scoped Classical
variable (V : Valuation τ sig (Elt Ideal))

/-! ## The quaternions -/

/-- All queries of a query's run of 128 have a neighbour. -/
def RunNear (b : Fin 8) (s : Fin 1024) : Prop :=
  ∀ x : Fin 128, 0 < cnt (pts V b) (qry V b ⟨s.val / 128 * 128 + x.val, by omega⟩) 8192

/-- A fold of bits by «and» is 1 exactly when all of them are. -/
theorem fold_andi {ι : Type} (s : Finset ι) (p : ι → BitVec 1) :
    Finset.fold IntOp.andi (1#1) p s = 1#1 ↔ ∀ x ∈ s, p x = 1#1 := by
  induction s using Finset.induction_on with
  | empty => simp
  | insert a s ha ih =>
    rw [Finset.fold_insert ha, Finset.forall_mem_insert, ← ih]
    generalize Finset.fold IntOp.andi (1#1) p s = y
    generalize p a = x
    revert x y
    decide

theorem run_bit (b : Fin 8) (s : Fin 1024) : res_main_v164 V (ix4 b 0 s 0) = BitVec.ofBool (decide (RunNear V b s)) := by
  have h := fun s => count_apply V b s
  have e : res_main_v164 V (ix4 b 0 s 0) = 1#1 ↔ RunNear V b s := by
    unfold res_main_v164
    clean_types
    pointwise
    rw [fold_andi]
    unfold RunNear
    refine ⟨fun g x => ?_, fun g x _ => ?_⟩
    · have g' := g x (Finset.mem_univ _)
      rw [h] at g'
      have hl := cnt_lt (pts V b) (qry V b ⟨s.val / 128 * 128 + x.val, by omega⟩)
      have := (slt_nat (m := 0) (n := cnt (pts V b) (qry V b ⟨s.val / 128 * 128 + x.val, by omega⟩) 8192) (by omega) (by omega)).symm.trans g'
      by_contra hc
      simp [hc] at this
    · rw [h]
      have hl := cnt_lt (pts V b) (qry V b ⟨s.val / 128 * 128 + x.val, by omega⟩)
      refine (slt_nat (m := 0) (n := cnt (pts V b) (qry V b ⟨s.val / 128 * 128 + x.val, by omega⟩) 8192) (by omega) (by omega)).trans ?_
      simp [g x]
  by_cases hr : RunNear V b s
  · rw [e.mpr hr]; simp [hr]
  · rcases BitVec.eq_zero_or_eq_one (res_main_v164 V (ix4 b 0 s 0)) with h0 | h1
    · rw [h0]; simp [hr]
    · exact absurd (e.mp h1) hr

theorem len_apply (b : Fin 8) (s : Fin 1024) (k : Fin 32) :
    res_main_v168 V (ix4 b 0 s k) = len (ordered (pts V b) (qry V b s) (wgt V b s) k) := by
  have h := fun a => order_apply V b s a k
  pointwise [res_main_v168]
  simp only [h, Fin.sum_univ_three]
  rfl

theorem half_apply (b : Fin 8) (s : Fin 1024) (k : Fin 32) :
    res_main_v178 V (ix4 b 0 s k) = half (ordered (pts V b) (qry V b s) (wgt V b s) k) := by
  have h := len_apply V b s k
  pointwise [res_main_v178] at h ⊢
  rw [h]
  rfl

theorem quat_cos (b : Fin 8) (s : Fin 1024) (k : Fin 32) :
    res_main_v226 V (ix5 b 0 0 s k) = cosine (RunNear V b s) (half (ordered (pts V b) (qry V b s) (wgt V b s) k)) := by
  have hh := half_apply V b s k
  have hr := run_bit V b s
  pointwise [res_main_v226, res_main_v179] at hh hr ⊢
  rw [hr, hh]
  unfold cosine cosPoly
  rw [lit_one]
  by_cases h : RunNear V b s <;> simp only [h, if_true, if_false, decide_true, decide_false] <;> rfl

theorem quat_sin (b : Fin 8) (s : Fin 1024) (k : Fin 32) (a : Fin 3) :
    res_main_v226 V (ix5 b ⟨a + 1, by omega⟩ 0 s k) = sine (RunNear V b s) (half (ordered (pts V b) (qry V b s) (wgt V b s) k))
      * unit (ordered (pts V b) (qry V b s) (wgt V b s) k) a := by
  have hh := half_apply V b s k
  have hl := len_apply V b s k
  have ho : res_main_v157 V (ix4 b ⟨a.val + 1 - 1, by omega⟩ s k) = ordered (pts V b) (qry V b s) (wgt V b s) k a := order_apply V b s a k
  have hr := run_bit V b s
  pointwise [res_main_v226, res_main_v202]
  rw [dif_neg (show ¬ a.val + 1 < 1 by omega), hr, hh, hl, ho]
  unfold sine sinPoly
  rw [lit_one]
  by_cases h : RunNear V b s <;> simp only [h, if_true, if_false, decide_true, decide_false] <;> rfl

theorem quat_apply (b : Fin 8) (s : Fin 1024) (k : Fin 32) (c : Fin 4) :
    res_main_v226 V (ix5 b c 0 s k) = result (pts V b) (qry V b s) (wgt V b s) (RunNear V b s) k c := by
  rcases Fin.eq_zero_or_eq_succ c with rfl | ⟨a, rfl⟩
  · exact quat_cos V b s k
  · refine (quat_sin V b s k a).trans ?_
    fin_cases a <;> rfl

/-! ## The turns -/

/-- The quaternions turned by one place. -/
def turn (x : FVec Ideal S8x4x1x1024x32 .f32) : FVec Ideal S8x4x1x1024x32 .f32 :=
  concatenate S8x4x1x1024x32 4 [⟨S8x4x1x1024x31, (extractStridedSlice S8x4x1x1024x31 ![0, 0, 0, 0, 1] x slices_S8x4x1x1024x32_S8x4x1x1024x31_0_0_0_0_1)⟩,
    ⟨S8x4x1x1024x1, (extractStridedSlice S8x4x1x1024x1 ![0, 0, 0, 0, 0] x slices_S8x4x1x1024x32_S8x4x1x1024x1_0_0_0_0_0)⟩]
    concatenates_S8x4x1x1024x31_S8x4x1x1024x1_S8x4x1x1024x32_d4

theorem turn_apply (x : FVec Ideal S8x4x1x1024x32 .f32) (b : Fin 8) (c : Fin 4) (s : Fin 1024) (k : Fin 32) :
    turn x (ix5 b c 0 s k) = x (ix5 b c 0 s ⟨(k + 1) % 32, by omega⟩) := by
  pointwise [turn]
  split <;> (congr 2; refine Fin.ext ?_; simp only; omega)

/-- A further turn of what is already turned by `m` places. -/
theorem turn_more (x y : FVec Ideal S8x4x1x1024x32 .f32) (m : ℕ) (b : Fin 8) (c : Fin 4) (s : Fin 1024)
    (h : ∀ k : Fin 32, x (ix5 b c 0 s k) = y (ix5 b c 0 s ⟨(k + m) % 32, by omega⟩)) (k : Fin 32) :
    turn x (ix5 b c 0 s k) = y (ix5 b c 0 s ⟨(k + (m + 1)) % 32, by omega⟩) := by
  rw [turn_apply, h]
  congr 2; refine Fin.ext ?_; simp only; omega

/-- An array and its seven turned copies, as the channels. -/
def copies (x : FVec Ideal S8x4x1x1024x32 .f32) : FVec Ideal S8x32x1024x32 .f32 :=
  shapeCast _ (concatenate S8x4x8x1024x32 2 [⟨S8x4x1x1024x32, x⟩, ⟨S8x4x1x1024x32, turn x⟩, ⟨S8x4x1x1024x32, turn (turn x)⟩,
    ⟨S8x4x1x1024x32, turn (turn (turn x))⟩, ⟨S8x4x1x1024x32, turn (turn (turn (turn x)))⟩,
    ⟨S8x4x1x1024x32, turn (turn (turn (turn (turn x))))⟩, ⟨S8x4x1x1024x32, turn (turn (turn (turn (turn (turn x)))))⟩,
    ⟨S8x4x1x1024x32, turn (turn (turn (turn (turn (turn (turn x))))))⟩]
    concatenates_S8x4x1x1024x32_S8x4x1x1024x32_S8x4x1x1024x32_S8x4x1x1024x32_S8x4x1x1024x32_S8x4x1x1024x32_S8x4x1x1024x32_S8x4x1x1024x32_S8x4x8x1024x32_d2)
    shapeCasts_S8x4x8x1024x32_S8x32x1024x32

/-- A copy turned by `m` places serves the channels that leave `m` by 8. -/
theorem turned (y x : FVec Ideal S8x4x1x1024x32 .f32) (m : ℕ) (b : Fin 8) (ch : Fin 32) (s : Fin 1024) (k : Fin 32)
    (h : ∀ (c : Fin 4) (k : Fin 32), y (ix5 b c 0 s k) = x (ix5 b c 0 s ⟨(k + m) % 32, by omega⟩)) (hm : ch.val % 8 = m) (i : Fin 1) :
    y (ix5 b ⟨ch / 8, by omega⟩ i s k) = x (ix5 b ⟨ch / 8, by omega⟩ 0 s ⟨(k + ch % 8) % 32, by omega⟩) := by
  obtain rfl : i = 0 := Subsingleton.elim _ _
  rw [h]
  congr 2; refine Fin.ext ?_; simp only; omega

/-- Each element of the copies: channel `ch` holds part `ch / 8`, turned by `ch % 8` places. -/
theorem copies_apply (x : FVec Ideal S8x4x1x1024x32 .f32) (b : Fin 8) (ch : Fin 32) (s : Fin 1024) (k : Fin 32) :
    copies x (ix4 b ch s k) = x (ix5 b ⟨ch / 8, by omega⟩ 0 s ⟨(k + ch % 8) % 32, by omega⟩) := by
  obtain ⟨y1, e1⟩ : ∃ y, turn x = y := ⟨_, rfl⟩
  have h1 : ∀ (c : Fin 4) (k : Fin 32), y1 (ix5 b c 0 s k) = x (ix5 b c 0 s ⟨(k + 1) % 32, by omega⟩) := fun c k => by
    rw [← e1]
    exact turn_more x x 0 b c s (fun k => by congr 2; refine Fin.ext ?_; simp only; omega) k
  obtain ⟨y2, e2⟩ : ∃ y, turn y1 = y := ⟨_, rfl⟩
  have h2 : ∀ (c : Fin 4) (k : Fin 32), y2 (ix5 b c 0 s k) = x (ix5 b c 0 s ⟨(k + 2) % 32, by omega⟩) := fun c k => by
    rw [← e2]
    exact turn_more y1 x 1 b c s (h1 c) k
  obtain ⟨y3, e3⟩ : ∃ y, turn y2 = y := ⟨_, rfl⟩
  have h3 : ∀ (c : Fin 4) (k : Fin 32), y3 (ix5 b c 0 s k) = x (ix5 b c 0 s ⟨(k + 3) % 32, by omega⟩) := fun c k => by
    rw [← e3]
    exact turn_more y2 x 2 b c s (h2 c) k
  obtain ⟨y4, e4⟩ : ∃ y, turn y3 = y := ⟨_, rfl⟩
  have h4 : ∀ (c : Fin 4) (k : Fin 32), y4 (ix5 b c 0 s k) = x (ix5 b c 0 s ⟨(k + 4) % 32, by omega⟩) := fun c k => by
    rw [← e4]
    exact turn_more y3 x 3 b c s (h3 c) k
  obtain ⟨y5, e5⟩ : ∃ y, turn y4 = y := ⟨_, rfl⟩
  have h5 : ∀ (c : Fin 4) (k : Fin 32), y5 (ix5 b c 0 s k) = x (ix5 b c 0 s ⟨(k + 5) % 32, by omega⟩) := fun c k => by
    rw [← e5]
    exact turn_more y4 x 4 b c s (h4 c) k
  obtain ⟨y6, e6⟩ : ∃ y, turn y5 = y := ⟨_, rfl⟩
  have h6 : ∀ (c : Fin 4) (k : Fin 32), y6 (ix5 b c 0 s k) = x (ix5 b c 0 s ⟨(k + 6) % 32, by omega⟩) := fun c k => by
    rw [← e6]
    exact turn_more y5 x 5 b c s (h5 c) k
  obtain ⟨y7, e7⟩ : ∃ y, turn y6 = y := ⟨_, rfl⟩
  have h7 : ∀ (c : Fin 4) (k : Fin 32), y7 (ix5 b c 0 s k) = x (ix5 b c 0 s ⟨(k + 7) % 32, by omega⟩) := fun c k => by
    rw [← e7]
    exact turn_more y6 x 6 b c s (h6 c) k
  unfold copies
  rw [e1, e2, e3, e4, e5, e6, e7]
  pointwise
  by_cases c0 : ch.val % 8 < 1
  · rw [dif_pos c0]
    exact turned x x 0 b ch s k (fun c k => by congr 2; refine Fin.ext ?_; simp only; omega) (by omega) _
  rw [dif_neg c0]
  by_cases c1 : ch.val % 8 - 1 < 1
  · rw [dif_pos c1]
    exact turned y1 x 1 b ch s k h1 (by omega) _
  rw [dif_neg c1]
  by_cases c2 : ch.val % 8 - 1 - 1 < 1
  · rw [dif_pos c2]
    exact turned y2 x 2 b ch s k h2 (by omega) _
  rw [dif_neg c2]
  by_cases c3 : ch.val % 8 - 1 - 1 - 1 < 1
  · rw [dif_pos c3]
    exact turned y3 x 3 b ch s k h3 (by omega) _
  rw [dif_neg c3]
  by_cases c4 : ch.val % 8 - 1 - 1 - 1 - 1 < 1
  · rw [dif_pos c4]
    exact turned y4 x 4 b ch s k h4 (by omega) _
  rw [dif_neg c4]
  by_cases c5 : ch.val % 8 - 1 - 1 - 1 - 1 - 1 < 1
  · rw [dif_pos c5]
    exact turned y5 x 5 b ch s k h5 (by omega) _
  rw [dif_neg c5]
  by_cases c6 : ch.val % 8 - 1 - 1 - 1 - 1 - 1 - 1 < 1
  · rw [dif_pos c6]
    exact turned y6 x 6 b ch s k h6 (by omega) _
  rw [dif_neg c6]
  exact turned y7 x 7 b ch s k h7 (by omega) _

/-- The program's result. -/
def out : FVec Ideal S8x32x1024x32 .f32 := copies (res_main_v226 V)

/-- Each element of the program's result. -/
theorem out_apply (b : Fin 8) (ch : Fin 32) (s : Fin 1024) (k : Fin 32) :
    out V (ix4 b ch s k) = result (pts V b) (qry V b s) (wgt V b s) (RunNear V b s) ⟨(k + ch % 8) % 32, by omega⟩ ⟨ch / 8, by omega⟩ := by
  rw [← quat_apply]
  exact copies_apply (res_main_v226 V) b ch s k

end Cert.Proof.Ref

end
-- ==== Proof.Same.lean ====
/- Kernel and reference leave the same array when they are launched on the same arguments. -/
module

public import proofs.«01_k».proof.Proof.Value
public import proofs.«01_k».proof.Proof.RefOut

@[expose] public section

set_option maxRecDepth 16384

noncomputable section

namespace Cert.Proof

open Idealize.ShloMosaic Idealize.ShloMosaic.TcCoe

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- The reference's array is the kernel's: at every index both are the ball query's result there. -/
theorem same_array (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2)) :
    Ref.out (StableHlo.launchContents m' c) = Run.arrOut m c := by
  funext y
  idx_vars y
  rw [Ref.out_apply, Run.arrOut_apply]
  have e0 : ∀ b, Ref.pts (StableHlo.launchContents m' c) b = fun n a => Run.ptsA m c (ix3 b n a) := fun b =>
    funext fun n => funext fun a => congrFun h0 (ix3 b n a)
  have e1 : ∀ b s, Ref.qry (StableHlo.launchContents m' c) b s = fun a => Run.qryA m c (ix3 b s a) := fun b s =>
    funext fun a => congrFun h1 (ix3 b s a)
  have e2 : ∀ b s, Ref.wgt (StableHlo.launchContents m' c) b s = fun k => Run.wgtA m c (ix3 b s k) := fun b s =>
    funext fun k => congrFun h2 (ix3 b s k)
  unfold Ref.RunNear
  simp only [e0, e1, e2]

end Cert.Proof

end
-- ==== Proof.Exact.lean ====
/- The printed test of the result, stage by stage: it makes the reference's own ordered neighbours of the same arguments. -/
module

public import proofs.«01_k».proof.Proof.RefOut
public import proofs.«01_k».proof.Post_near_exact

@[expose] public section

set_option maxRecDepth 16384

noncomputable section

namespace Cert.Proof.Exact

open Cert.ReferenceIdeal Cert.ReferenceIdeal.Gen Cert.ReferenceIdeal.Value Idealize.ShloMosaic.TcCoe
open Idealize.ShloMosaic

/-- The shape relations of the test are the reference's, and one more. -/
instance facts : Cert.Post_near_exact.Facts where
  bcast_S8x1024x3_S8x1024x1x3_0_1_3 := Cert.ReferenceIdeal.Gen.bcast_S8x1024x3_S8x1024x1x3_0_1_3
  bcast_S8x8192x3_S8x1x8192x3_0_2_3 := Cert.ReferenceIdeal.Gen.bcast_S8x8192x3_S8x1x8192x3_0_2_3
  bcast_S8x1024x1x3_S8x1024x8192x3_0_1_2_3 := Cert.ReferenceIdeal.Gen.bcast_S8x1024x1x3_S8x1024x8192x3_0_1_2_3
  bcast_S8x1x8192x3_S8x1024x8192x3_0_1_2_3 := Cert.ReferenceIdeal.Gen.bcast_S8x1x8192x3_S8x1024x8192x3_0_1_2_3
  reducesTo_S8x1024x8192x3_S8x1024x8192_d3 := Cert.ReferenceIdeal.Gen.reducesTo_S8x1024x8192x3_S8x1024x8192_d3
  h_S_ := Cert.ReferenceIdeal.Gen.h_S_
  bcast_S_S8x1024x8192 := Cert.ReferenceIdeal.Gen.bcast_S_S8x1024x8192
  bcast_S8192_S1x1x8192_2 := Cert.ReferenceIdeal.Gen.bcast_S8192_S1x1x8192_2
  bcast_S1x1x8192_S8x1024x8192_0_1_2 := Cert.ReferenceIdeal.Gen.bcast_S1x1x8192_S8x1024x8192_0_1_2
  sliceFits_S8x1024x8192_S8x1024x33 := Cert.ReferenceIdeal.Gen.sliceFits_S8x1024x8192_S8x1024x33
  natLt_1_32 := Cert.ReferenceIdeal.Gen.natLt_1_32
  reducesTo_S8x1024x8192_S8x1024_d2 := Cert.ReferenceIdeal.Gen.reducesTo_S8x1024x8192_S8x1024_d2
  bcast_S8x1024_S8x1024x1_0_1 := Cert.ReferenceIdeal.Gen.bcast_S8x1024_S8x1024x1_0_1
  bcast_S33_S1x1x33_2 := Cert.ReferenceIdeal.Gen.bcast_S33_S1x1x33_2
  bcast_S1x1x33_S8x1024x33_0_1_2 := Cert.ReferenceIdeal.Gen.bcast_S1x1x33_S8x1024x33_0_1_2
  bcast_S8x1024x1_S8x1024x33_0_1_2 := Cert.ReferenceIdeal.Gen.bcast_S8x1024x1_S8x1024x33_0_1_2
  slices_S8x1024x33_S8x1024x1_0_0_0 := Cert.ReferenceIdeal.Gen.slices_S8x1024x33_S8x1024x1_0_0_0
  transposes_S8x8192x3_S8x3x8192_0_2_1 := Cert.ReferenceIdeal.Gen.transposes_S8x8192x3_S8x3x8192_0_2_1
  bcast_S_S8x1024x33 := Cert.ReferenceIdeal.Gen.bcast_S_S8x1024x33
  bcast_S8x1024x33_S8x1024x33x1_0_1_2 := Cert.ReferenceIdeal.Gen.bcast_S8x1024x33_S8x1024x33x1_0_1_2
  slices_S8x3x1024x33_S8x3x1024x32_0_0_0_1 := Cert.ReferenceIdeal.Gen.slices_S8x3x1024x33_S8x3x1024x32_0_0_0_1
  transposes_S8x1024x3_S8x3x1024_0_2_1 := Cert.ReferenceIdeal.Gen.transposes_S8x1024x3_S8x3x1024_0_2_1
  bcast_S8x3x1024_S8x3x1024x1_0_1_2 := Cert.ReferenceIdeal.Gen.bcast_S8x3x1024_S8x3x1024x1_0_1_2
  bcast_S8x3x1024x1_S8x3x1024x32_0_1_2_3 := Cert.ReferenceIdeal.Gen.bcast_S8x3x1024x1_S8x3x1024x32_0_1_2_3
  reducesTo_S8x3x1024x1_S8x1024x1_d1 := Cert.ReferenceIdeal.Gen.reducesTo_S8x3x1024x1_S8x1024x1_d1
  bcast_S8x1024x1_S8x1x1024x1_0_2_3 := Cert.ReferenceIdeal.Gen.bcast_S8x1024x1_S8x1x1024x1_0_2_3
  bcast_S_S8x1x1024x1 := Cert.ReferenceIdeal.Gen.bcast_S_S8x1x1024x1
  bcast_S8x1x1024x1_S8x3x1024x1_0_1_2_3 := Cert.ReferenceIdeal.Gen.bcast_S8x1x1024x1_S8x3x1024x1_0_1_2_3
  slices_S8x3x1024x1_S8x1x1024x1_0_0_0_0 := Cert.ReferenceIdeal.Gen.slices_S8x3x1024x1_S8x1x1024x1_0_0_0_0
  shapeCasts_S8x1x1024x1_S8x1024x1 := Cert.ReferenceIdeal.Gen.shapeCasts_S8x1x1024x1_S8x1024x1
  slices_S8x3x1024x1_S8x1x1024x1_0_1_0_0 := Cert.ReferenceIdeal.Gen.slices_S8x3x1024x1_S8x1x1024x1_0_1_0_0
  slices_S8x3x1024x1_S8x1x1024x1_0_2_0_0 := Cert.ReferenceIdeal.Gen.slices_S8x3x1024x1_S8x1x1024x1_0_2_0_0
  bcast_S_S8x1024x1 := Cert.ReferenceIdeal.Gen.bcast_S_S8x1024x1
  concatenates_S8x1x1024x1_S8x1x1024x1_S8x1x1024x1_S8x3x1024x1_d1 := Cert.ReferenceIdeal.Gen.concatenates_S8x1x1024x1_S8x1x1024x1_S8x1x1024x1_S8x3x1024x1_d1
  reducesTo_S8x3x1024x32_S8x1024x32_d1 := Cert.ReferenceIdeal.Gen.reducesTo_S8x3x1024x32_S8x1024x32_d1
  bcast_S8x1024x32_S8x1x1024x32_0_2_3 := Cert.ReferenceIdeal.Gen.bcast_S8x1024x32_S8x1x1024x32_0_2_3
  bcast_S8x1x1024x32_S8x3x1024x32_0_1_2_3 := Cert.ReferenceIdeal.Gen.bcast_S8x1x1024x32_S8x3x1024x32_0_1_2_3
  bcast_S_S8x1x1024x32 := Cert.ReferenceIdeal.Gen.bcast_S_S8x1x1024x32
  slices_S8x3x1024x32_S8x1x1024x32_0_0_0_0 := Cert.ReferenceIdeal.Gen.slices_S8x3x1024x32_S8x1x1024x32_0_0_0_0
  shapeCasts_S8x1x1024x32_S8x1024x32 := Cert.ReferenceIdeal.Gen.shapeCasts_S8x1x1024x32_S8x1024x32
  slices_S8x3x1024x32_S8x1x1024x32_0_1_0_0 := Cert.ReferenceIdeal.Gen.slices_S8x3x1024x32_S8x1x1024x32_0_1_0_0
  slices_S8x3x1024x32_S8x1x1024x32_0_2_0_0 := Cert.ReferenceIdeal.Gen.slices_S8x3x1024x32_S8x1x1024x32_0_2_0_0
  concatenates_S8x1x1024x32_S8x1x1024x32_S8x1x1024x32_S8x3x1024x32_d1 := Cert.ReferenceIdeal.Gen.concatenates_S8x1x1024x32_S8x1x1024x32_S8x1x1024x32_S8x3x1024x32_d1
  bcast_S_S8x3x1024x32 := Cert.ReferenceIdeal.Gen.bcast_S_S8x3x1024x32
  shapeCasts_S8x3x1024x32_S8x3x1024x32x1 := Cert.ReferenceIdeal.Gen.shapeCasts_S8x3x1024x32_S8x3x1024x32x1
  bcast_S_S8x3x1024x32x1 := Cert.ReferenceIdeal.Gen.bcast_S_S8x3x1024x32x1
  bcast_S1_S1x1x1x1x1_4 := Cert.ReferenceIdeal.Gen.bcast_S1_S1x1x1x1x1_4
  bcast_S1x1x1x1x1_S8x3x1024x32x1_0_1_2_3_4 := Cert.ReferenceIdeal.Gen.bcast_S1x1x1x1x1_S8x3x1024x32x1_0_1_2_3_4
  reducesTo_S8x3x1024x32x1_S8x3x1024x32_d4 := Cert.ReferenceIdeal.Gen.reducesTo_S8x3x1024x32x1_S8x3x1024x32_d4
  concatenates_S8x1x1024x32_S8x3x1024x32_S8x4x1024x32_d1 := Cert.ReferenceIdeal.Gen.concatenates_S8x1x1024x32_S8x3x1024x32_S8x4x1024x32_d1
  bcast_S8x4x1024x32_S8x4x1x1024x32_0_1_3_4 := Cert.ReferenceIdeal.Gen.bcast_S8x4x1024x32_S8x4x1x1024x32_0_1_3_4
  slices_S8x4x1x1024x32_S8x4x1x1024x31_0_0_0_0_1 := Cert.ReferenceIdeal.Gen.slices_S8x4x1x1024x32_S8x4x1x1024x31_0_0_0_0_1
  slices_S8x4x1x1024x32_S8x4x1x1024x1_0_0_0_0_0 := Cert.ReferenceIdeal.Gen.slices_S8x4x1x1024x32_S8x4x1x1024x1_0_0_0_0_0
  concatenates_S8x4x1x1024x31_S8x4x1x1024x1_S8x4x1x1024x32_d4 := Cert.ReferenceIdeal.Gen.concatenates_S8x4x1x1024x31_S8x4x1x1024x1_S8x4x1x1024x32_d4
  concatenates_S8x4x1x1024x32_S8x4x1x1024x32_S8x4x1x1024x32_S8x4x1x1024x32_S8x4x1x1024x32_S8x4x1x1024x32_S8x4x1x1024x32_S8x4x1x1024x32_S8x4x8x1024x32_d2 := Cert.ReferenceIdeal.Gen.concatenates_S8x4x1x1024x32_S8x4x1x1024x32_S8x4x1x1024x32_S8x4x1x1024x32_S8x4x1x1024x32_S8x4x1x1024x32_S8x4x1x1024x32_S8x4x1x1024x32_S8x4x8x1024x32_d2
  shapeCasts_S8x4x8x1024x32_S8x32x1024x32 := Cert.ReferenceIdeal.Gen.shapeCasts_S8x4x8x1024x32_S8x32x1024x32
  bcast_S_S8x32x1024x32 := by decide
  gather_S8x3x8192_S8x1024x33x1_S8x3x1024x33_1_2_0_0_2_3_131_wf := Cert.ReferenceIdeal.Gen.gather_S8x3x8192_S8x1024x33x1_S8x3x1024x33_1_2_0_0_2_3_131_wf
  gather_S8x3x1024x32_S8x3x1024x32x1_S8x3x1024x32_n_3_012_012_3_4_1111_wf := Cert.ReferenceIdeal.Gen.gather_S8x3x1024x32_S8x3x1024x32x1_S8x3x1024x32_n_3_012_012_3_4_1111_wf

open Cert.Post_near_exact (fn fn_part1 fn_part2 fn_part3 fn_part4 fn_part5 fn_part6 fn_part7 fn_part8)

variable (V : Valuation τ sig (Elt Ideal)) (o : FVec Ideal S8x32x1024x32 .f32)

/-- The points of the arguments. -/
abbrev a0 : FVec Ideal S8x8192x3 .f32 := V (Proc.devRef .tc main_arg0)
/-- The queries of the arguments. -/
abbrev a1 : FVec Ideal S8x1024x3 .f32 := V (Proc.devRef .tc main_arg1)
/-- The drawn numbers of the arguments. -/
abbrev a2 : FVec Ideal S8x1024x32 .f32 := V (Proc.devRef .tc main_arg2)

/-- The numbers of the 33 places. -/
def n17 : IVec S1x1x33 32 := broadcastInDim S1x1x33 ![2] bcast_S33_S1x1x33_2 (iotaInDim S33 32 0)
/-- The queries' squared lengths. -/
def n38 : FVec Ideal S8x1x1024x1 .f32 := broadcastInDim S8x1x1024x1 ![0, 2, 3] bcast_S8x1024x1_S8x1x1024x1_0_2_3
  (Host.reduceAdd (mulf (res_main_v33 V) (res_main_v33 V)) (constant S_ .f32 0x00000000#32) reducesTo_S8x3x1024x1_S8x1024x1_d1 h_S_)
/-- The first axis of the direction across, before its length is taken out. -/
def n78 : FVec Ideal S8x1x1024x1 .f32 := broadcastInDim S8x1x1024x1 ![0, 2, 3] bcast_S8x1024x1_S8x1x1024x1_0_2_3
  (select (res_main_v60 V) (mulf (Host.negf (res_main_v55 V)) (res_main_v53 V))
    (subf (broadcastInDim S8x1024x1 ![] bcast_S_S8x1024x1 (constant S_ .f32 0x3F800000#32)) (mulf (res_main_v53 V) (res_main_v53 V))))
/-- The second axis. -/
def n79 : FVec Ideal S8x1x1024x1 .f32 := broadcastInDim S8x1x1024x1 ![0, 2, 3] bcast_S8x1024x1_S8x1x1024x1_0_2_3
  (select (res_main_v60 V) (subf (broadcastInDim S8x1024x1 ![] bcast_S_S8x1024x1 (constant S_ .f32 0x3F800000#32)) (mulf (res_main_v55 V) (res_main_v55 V)))
    (mulf (Host.negf (res_main_v53 V)) (res_main_v55 V)))
/-- The third axis. -/
def n80 : FVec Ideal S8x1x1024x1 .f32 := broadcastInDim S8x1x1024x1 ![0, 2, 3] bcast_S8x1024x1_S8x1x1024x1_0_2_3
  (select (res_main_v60 V) (mulf (Host.negf (res_main_v55 V)) (res_main_v57 V)) (mulf (Host.negf (res_main_v53 V)) (res_main_v57 V)))
/-- The products along the query's direction. -/
def n100 : FVec Ideal S8x3x1024x32 .f32 :=
  mulf (broadcastInDim S8x3x1024x32 ![0, 1, 2, 3] bcast_S8x3x1024x1_S8x3x1024x32_0_1_2_3 (res_main_v98 V)) (res_main_v35 V)
/-- The headings' first axis. -/
def n121 : FVec Ideal S8x1x1024x32 .f32 :=
  extractStridedSlice S8x1x1024x32 ![0, 0, 0, 0] (res_main_v114 V) slices_S8x3x1024x32_S8x1x1024x32_0_0_0_0
/-- The cross products of the zero directions and the headings. -/
def n139 : FVec Ideal S8x3x1024x32 .f32 := concatenate S8x3x1024x32 1
  [⟨S8x1x1024x32, broadcastInDim S8x1x1024x32 ![0, 2, 3] bcast_S8x1024x32_S8x1x1024x32_0_2_3 (subf (mulf (res_main_v118 V) (res_main_v126 V)) (mulf (res_main_v120 V) (res_main_v124 V)))⟩,
   ⟨S8x1x1024x32, broadcastInDim S8x1x1024x32 ![0, 2, 3] bcast_S8x1024x32_S8x1x1024x32_0_2_3 (subf (mulf (res_main_v120 V) (res_main_v122 V)) (mulf (res_main_v116 V) (res_main_v126 V)))⟩,
   ⟨S8x1x1024x32, broadcastInDim S8x1x1024x32 ![0, 2, 3] bcast_S8x1024x32_S8x1x1024x32_0_2_3 (subf (mulf (res_main_v116 V) (res_main_v124 V)) (mulf (res_main_v118 V) (res_main_v122 V)))⟩]
  concatenates_S8x1x1024x32_S8x1x1024x32_S8x1x1024x32_S8x3x1024x32_d1
/-- Their products along the query's direction. -/
def n143 : FVec Ideal S8x1x1024x32 .f32 := broadcastInDim S8x1x1024x32 ![0, 2, 3] bcast_S8x1024x32_S8x1x1024x32_0_2_3
  (Host.reduceAdd (mulf (n139 V) (broadcastInDim S8x3x1024x32 ![0, 1, 2, 3] bcast_S8x3x1024x1_S8x3x1024x32_0_1_2_3 (res_main_v43 V)))
    (constant S_ .f32 0x00000000#32) reducesTo_S8x3x1024x32_S8x1024x32_d1 h_S_)
/-- The lengths of the ordered neighbours, kept off zero. -/
def n163 : FVec Ideal S8x1x1024x32 .f32 :=
  addf (res_main_v168 V) (broadcastInDim S8x1x1024x32 ![] bcast_S_S8x1x1024x32 (constant S_ .f32 0x358637BD#32))

/-- The neighbours' places and how many they are. -/
theorem stage0 : fn (F := Ideal) (a0 V) (a1 V) (a2 V) o
    = fn_part1 (F := Ideal) (a0 V) (a1 V) (a2 V) o (res_main_indices V) (res_main_v15 V) n17 := rfl

/-- The neighbours, relative to the query. -/
theorem stage1 : fn_part1 (F := Ideal) (a0 V) (a1 V) (a2 V) o (res_main_indices V) (res_main_v15 V) n17
    = fn_part2 (F := Ideal) (a2 V) o (res_main_v33 V) (res_main_v35 V) (n38 V) := rfl

/-- The query's direction. -/
theorem stage2 : fn_part2 (F := Ideal) (a2 V) o (res_main_v33 V) (res_main_v35 V) (n38 V)
    = fn_part3 (F := Ideal) (a2 V) o (res_main_v35 V) (res_main_v43 V) (res_main_v53 V) (res_main_v55 V) (res_main_v57 V)
      (Host.absf (res_main_v53 V)) (constant S_ .f32 0x3F7FBE77#32) := rfl

/-- The direction across. -/
theorem stage3 : fn_part3 (F := Ideal) (a2 V) o (res_main_v35 V) (res_main_v43 V) (res_main_v53 V) (res_main_v55 V) (res_main_v57 V)
      (Host.absf (res_main_v53 V)) (constant S_ .f32 0x3F7FBE77#32)
    = fn_part4 (F := Ideal) (a2 V) o (res_main_v35 V) (res_main_v43 V) (n78 V) (n79 V) (n80 V) := rfl

/-- The zero direction. -/
theorem stage4 : fn_part4 (F := Ideal) (a2 V) o (res_main_v35 V) (res_main_v43 V) (n78 V) (n79 V) (n80 V)
    = fn_part5 (F := Ideal) (a2 V) o (res_main_v35 V) (res_main_v43 V) (res_main_v90 V) (res_main_v98 V) (n100 V) := rfl

/-- The headings. -/
theorem stage5 : fn_part5 (F := Ideal) (a2 V) o (res_main_v35 V) (res_main_v43 V) (res_main_v90 V) (res_main_v98 V) (n100 V)
    = fn_part6 (F := Ideal) (a2 V) o (res_main_v35 V) (res_main_v43 V) (res_main_v90 V) (res_main_v114 V) (res_main_v116 V)
      (res_main_v118 V) (res_main_v120 V) (n121 V) := rfl

/-- The products of the angles. -/
theorem stage6 : fn_part6 (F := Ideal) (a2 V) o (res_main_v35 V) (res_main_v43 V) (res_main_v90 V) (res_main_v114 V) (res_main_v116 V)
      (res_main_v118 V) (res_main_v120 V) (n121 V)
    = fn_part7 (F := Ideal) (a2 V) o (res_main_v35 V) (res_main_v114 V) (n143 V) (mulf (res_main_v90 V) (res_main_v114 V)) := rfl

/-- The neighbours in order of the angles. -/
theorem stage7 : fn_part7 (F := Ideal) (a2 V) o (res_main_v35 V) (res_main_v114 V) (n143 V) (mulf (res_main_v90 V) (res_main_v114 V))
    = fn_part8 (F := Ideal) o (res_main_v157 V) (res_main_v168 V) (n163 V) := rfl

/-- The test, on the reference's ordered neighbours. -/
theorem fn_eq : fn (F := Ideal) (a0 V) (a1 V) (a2 V) o = fn_part8 (F := Ideal) o (res_main_v157 V) (res_main_v168 V) (n163 V) :=
  (stage0 V o).trans ((stage1 V o).trans ((stage2 V o).trans ((stage3 V o).trans ((stage4 V o).trans ((stage5 V o).trans
    ((stage6 V o).trans (stage7 V o)))))))

end Cert.Proof.Exact

end
-- ==== Proof.ExactOut.lean ====
/- The printed test, at an index: the result against the quaternion of the exact cosine and sine. -/
module

public import proofs.«01_k».proof.Proof.Exact

@[expose] public section

set_option maxRecDepth 16384

noncomputable section

namespace Cert.Proof.Exact

open Cert.ReferenceIdeal Cert.ReferenceIdeal.Gen Cert.ReferenceIdeal.Value Idealize.ShloMosaic.TcCoe
open Idealize.ShloMosaic Cert.Proof.Spec Cert.Proof.Ref

variable (V : Valuation τ sig (Elt Ideal)) (o : FVec Ideal S8x32x1024x32 .f32)

/-- The quaternions by the exact cosine and sine. -/
def quats : FVec Ideal S8x4x1x1024x32 .f32 :=
  broadcastInDim S8x4x1x1024x32 ![0, 1, 3, 4] bcast_S8x4x1024x32_S8x4x1x1024x32_0_1_3_4 (concatenate S8x4x1024x32 1
    [⟨S8x1x1024x32, Host.cos (res_main_v178 V)⟩,
     ⟨S8x3x1024x32, mulf (broadcastInDim S8x3x1024x32 ![0, 1, 2, 3] bcast_S8x1x1024x32_S8x3x1024x32_0_1_2_3 (Host.sin (res_main_v178 V)))
      (Host.divf (res_main_v157 V) (broadcastInDim S8x3x1024x32 ![0, 1, 2, 3] bcast_S8x1x1024x32_S8x3x1024x32_0_1_2_3 (n163 V)))⟩]
    concatenates_S8x1x1024x32_S8x3x1024x32_S8x4x1024x32_d1)

theorem quats_cos (b : Fin 8) (s : Fin 1024) (k : Fin 32) :
    quats V (ix5 b 0 0 s k) = Ideal.cos (half (ordered (pts V b) (qry V b s) (wgt V b s) k)) := by
  have hh := half_apply V b s k
  pointwise [quats]
  rw [hh]

theorem quats_sin (b : Fin 8) (s : Fin 1024) (k : Fin 32) (a : Fin 3) :
    quats V (ix5 b ⟨a + 1, by omega⟩ 0 s k) = Ideal.sin (half (ordered (pts V b) (qry V b s) (wgt V b s) k))
      * unit (ordered (pts V b) (qry V b s) (wgt V b s) k) a := by
  have hh := half_apply V b s k
  have hl := len_apply V b s k
  have ho : res_main_v157 V (ix4 b ⟨a.val + 1 - 1, by omega⟩ s k) = ordered (pts V b) (qry V b s) (wgt V b s) k a := order_apply V b s a k
  pointwise [quats, n163]
  rw [dif_neg (show ¬ a.val + 1 < 1 by omega), hh, hl, ho]
  rfl

theorem quats_apply (b : Fin 8) (s : Fin 1024) (k : Fin 32) (c : Fin 4) :
    quats V (ix5 b c 0 s k) = result (pts V b) (qry V b s) (wgt V b s) False k c := by
  have e : ∀ t, cosine False t = Ideal.cos t := fun t => if_neg not_false
  have e' : ∀ t, sine False t = Ideal.sin t := fun t => if_neg not_false
  unfold result quat
  rw [e, e']
  rcases Fin.eq_zero_or_eq_succ c with rfl | ⟨a, rfl⟩
  · exact quats_cos V b s k
  · refine (quats_sin V b s k a).trans ?_
    fin_cases a <;> rfl

/-- The test compares the result with the copies of the exact quaternions. -/
theorem test_eq : Cert.Post_near_exact.fn (F := Ideal) (a0 V) (a1 V) (a2 V) o
    = ori (cmpf .oeq o (copies (quats V))) (cmpf .ole (Host.absf (subf o (copies (quats V))))
      (broadcastInDim S8x32x1024x32 ![] (Cert.Post_near_exact.Facts.bcast_S_S8x32x1024x32) (constant S_ .f32 0x358637BD#32))) :=
  (fn_eq V o).trans rfl

theorem or_left_one (t : Bool) : IntOp.ori (BitVec.ofBool true) (BitVec.ofBool t) = 1#1 := by cases t <;> decide

theorem or_right_one (t : Bool) : IntOp.ori (BitVec.ofBool t) (BitVec.ofBool true) = 1#1 := by cases t <;> decide

/-- Where the result is the exact one or close to it, the test passes. -/
theorem test_one (b : Fin 8) (ch : Fin 32) (s : Fin 1024) (k : Fin 32)
    (h : o (ix4 b ch s k) = result (pts V b) (qry V b s) (wgt V b s) False ⟨(k + ch % 8) % 32, by omega⟩ ⟨ch / 8, by omega⟩
      ∨ max (o (ix4 b ch s k) - result (pts V b) (qry V b s) (wgt V b s) False ⟨(k + ch % 8) % 32, by omega⟩ ⟨ch / 8, by omega⟩)
        (-(o (ix4 b ch s k) - result (pts V b) (qry V b s) (wgt V b s) False ⟨(k + ch % 8) % 32, by omega⟩ ⟨ch / 8, by omega⟩)) ≤ lit 0x358637BD#32) :
    Cert.Post_near_exact.fn (F := Ideal) (a0 V) (a1 V) (a2 V) o (ix4 b ch s k) = 1#1 := by
  have hc := (copies_apply (quats V) b ch s k).trans (quats_apply V b s _ _)
  rw [test_eq]
  generalize result (pts V b) (qry V b s) (wgt V b s) False _ _ = E at h hc
  generalize copies (quats V) = X at hc ⊢
  pointwise
  rw [hc]
  generalize o _ = A at h ⊢
  rcases h with h | h
  · rw [decide_eq_true h]
    exact or_left_one _
  · have h' : FloatOps.absf (A - E) ≤ Ideal.ofBits FTy.f32 897988541#32 := h
    rw [decide_eq_true h']
    exact or_right_one _

end Cert.Proof.Exact

end
-- ==== Proof.Taylor.lean ====
/- How far the two Taylor polynomials are from the cosine and the sine on the half angles that occur. -/
module

public import proofs.«01_k».proof.Proof.Spec
public import Mathlib.Analysis.Complex.Exponential
public import Mathlib.Analysis.Complex.Trigonometric

@[expose] public section

noncomputable section

namespace Cert.Proof.Spec

open Idealize.ShloMosaic

/-- The cosine's partial sum of degree 12. -/
def cosSum (t : ℝ) : ℝ := 1 - t ^ 2 / 2 + t ^ 4 / 24 - t ^ 6 / 720 + t ^ 8 / 40320 - t ^ 10 / 3628800 + t ^ 12 / 479001600

/-- The sine's partial sum of degree 11. -/
def sinSum (t : ℝ) : ℝ := t - t ^ 3 / 6 + t ^ 5 / 120 - t ^ 7 / 5040 + t ^ 9 / 362880 - t ^ 11 / 39916800

/-- The exponential's partial sum at an imaginary number. -/
theorem exp_sum (t : ℝ) :
    ∑ m ∈ Finset.range 13, ((t : ℂ) * Complex.I) ^ m / (m.factorial : ℂ) = (cosSum t : ℂ) + (sinSum t : ℂ) * Complex.I := by
  have h2 : Complex.I ^ 2 = -1 := Complex.I_sq
  have h3 : Complex.I ^ 3 = -Complex.I := Complex.I_pow_three
  have h4 : Complex.I ^ 4 = 1 := Complex.I_pow_four
  have h5 : Complex.I ^ 5 = Complex.I := by rw [show 5 = 4 + 1 from rfl, pow_add, h4]; ring
  have h6 : Complex.I ^ 6 = -1 := by rw [show 6 = 4 + 2 from rfl, pow_add, h4, h2]; ring
  have h7 : Complex.I ^ 7 = -Complex.I := by rw [show 7 = 4 + 3 from rfl, pow_add, h4, h3]; ring
  have h8 : Complex.I ^ 8 = 1 := by rw [show 8 = 4 + 4 from rfl, pow_add, h4]; ring
  have h9 : Complex.I ^ 9 = Complex.I := by rw [show 9 = 8 + 1 from rfl, pow_add, h8]; ring
  have h10 : Complex.I ^ 10 = -1 := by rw [show 10 = 8 + 2 from rfl, pow_add, h8, h2]; ring
  have h11 : Complex.I ^ 11 = -Complex.I := by rw [show 11 = 8 + 3 from rfl, pow_add, h8, h3]; ring
  have h12 : Complex.I ^ 12 = 1 := by rw [show 12 = 8 + 4 from rfl, pow_add, h8, h4]; ring
  simp only [Finset.sum_range_succ, Finset.sum_range_zero, mul_pow, h2, h3, h4, h5, h6, h7, h8, h9, h10, h11, h12, Nat.factorial, cosSum, sinSum]
  push_cast
  ring

/-- The partial sums are close to the cosine and the sine. -/
theorem sum_close (t : ℝ) (h0 : 0 ≤ t) (h1 : t ≤ 1.571) :
    |Real.cos t - cosSum t| ≤ 1.2e-7 ∧ |Real.sin t - sinSum t| ≤ 1.2e-7 := by
  have hn : ‖(t : ℂ) * Complex.I‖ = t := by
    rw [norm_mul, Complex.norm_I, mul_one, Complex.norm_real, Real.norm_of_nonneg h0]
  have hb := Complex.exp_bound' (x := (t : ℂ) * Complex.I) (n := 13) (by rw [hn]; norm_num; linarith)
  rw [hn, exp_sum] at hb
  have ht : t ^ 13 ≤ (1.571 : ℝ) ^ 13 := pow_le_pow_left₀ h0 h1 13
  have hq : t ^ 13 / ((13 : ℕ).factorial : ℝ) * 2 ≤ 1.2e-7 := by
    have : ((13 : ℕ).factorial : ℝ) = 6227020800 := by norm_num [Nat.factorial]
    rw [this]
    norm_num at ht ⊢
    linarith
  have hz := hb.trans hq
  constructor
  · have := (Complex.abs_re_le_norm _).trans hz
    rwa [Complex.sub_re, Complex.exp_ofReal_mul_I_re, Complex.add_re, Complex.ofReal_re, Complex.re_ofReal_mul, Complex.I_re, mul_zero, add_zero] at this
  · have := (Complex.abs_im_le_norm _).trans hz
    rwa [Complex.sub_im, Complex.exp_ofReal_mul_I_im, Complex.add_im, Complex.ofReal_im, Complex.im_ofReal_mul, Complex.I_im, mul_one, zero_add] at this

/-- The cosine's polynomial over the reals. -/
def cosR (t : ℝ) : ℝ :=
  1 + t * t * (-1/2 + t * t * (11184811/268435456 + t * t * (-11930465/8589934592
    + t * t * (13634817/549755813888 + t * t * (-4847935/17592186044416 + t * t / 479001600)))))

/-- The sine's polynomial over the reals. -/
def sinR (t : ℝ) : ℝ :=
  t * (1 + t * t * (-11184811/67108864 + t * t * (8947849/1073741824 + t * t * (-13634817/68719476736
    + t * t * (12119837/4398046511104 + t * t * (-14103083/562949953421312))))))

/-- Rounding the cosine's coefficients moves it little. -/
theorem cosR_sum (t : ℝ) (h0 : 0 ≤ t) (h1 : t ≤ 1.571) : |cosR t - cosSum t| ≤ 1e-7 := by
  have hu : t ^ 2 ≤ 2.5 := by nlinarith
  have h2 : 0 ≤ t ^ 2 := by positivity
  have e4 : t ^ 4 ≤ 2.5 ^ 2 := by rw [show t ^ 4 = (t ^ 2) ^ 2 by ring]; exact pow_le_pow_left₀ h2 hu 2
  have e6 : t ^ 6 ≤ 2.5 ^ 3 := by rw [show t ^ 6 = (t ^ 2) ^ 3 by ring]; exact pow_le_pow_left₀ h2 hu 3
  have e8 : t ^ 8 ≤ 2.5 ^ 4 := by rw [show t ^ 8 = (t ^ 2) ^ 4 by ring]; exact pow_le_pow_left₀ h2 hu 4
  have e10 : t ^ 10 ≤ 2.5 ^ 5 := by rw [show t ^ 10 = (t ^ 2) ^ 5 by ring]; exact pow_le_pow_left₀ h2 hu 5
  have p4 : 0 ≤ t ^ 4 := by positivity
  have p6 : 0 ≤ t ^ 6 := by positivity
  have p8 : 0 ≤ t ^ 8 := by positivity
  have p10 : 0 ≤ t ^ 10 := by positivity
  have e : cosR t - cosSum t = (11184811/268435456 - 1/24) * t ^ 4 + (-11930465/8589934592 + 1/720) * t ^ 6
      + (13634817/549755813888 - 1/40320) * t ^ 8 + (-4847935/17592186044416 + 1/3628800) * t ^ 10 := by
    unfold cosR cosSum; ring
  rw [e, abs_le]
  norm_num at e4 e6 e8 e10 ⊢
  constructor <;> linarith

/-- Rounding the sine's coefficients moves it little. -/
theorem sinR_sum (t : ℝ) (h0 : 0 ≤ t) (h1 : t ≤ 1.571) : |sinR t - sinSum t| ≤ 1e-7 := by
  have e3 : t ^ 3 ≤ 1.571 ^ 3 := pow_le_pow_left₀ h0 h1 3
  have e5 : t ^ 5 ≤ 1.571 ^ 5 := pow_le_pow_left₀ h0 h1 5
  have e7 : t ^ 7 ≤ 1.571 ^ 7 := pow_le_pow_left₀ h0 h1 7
  have e9 : t ^ 9 ≤ 1.571 ^ 9 := pow_le_pow_left₀ h0 h1 9
  have e11 : t ^ 11 ≤ 1.571 ^ 11 := pow_le_pow_left₀ h0 h1 11
  have p3 : 0 ≤ t ^ 3 := by positivity
  have p5 : 0 ≤ t ^ 5 := by positivity
  have p7 : 0 ≤ t ^ 7 := by positivity
  have p9 : 0 ≤ t ^ 9 := by positivity
  have p11 : 0 ≤ t ^ 11 := by positivity
  have e : sinR t - sinSum t = (-11184811/67108864 + 1/6) * t ^ 3 + (8947849/1073741824 - 1/120) * t ^ 5
      + (-13634817/68719476736 + 1/5040) * t ^ 7 + (12119837/4398046511104 - 1/362880) * t ^ 9
      + (-14103083/562949953421312 + 1/39916800) * t ^ 11 := by
    unfold sinR sinSum; ring
  rw [e, abs_le]
  norm_num at e3 e5 e7 e9 e11 ⊢
  constructor <;> linarith

/-- The cosine's polynomial is within 5e-7 of the cosine. -/
theorem cosR_close (t : ℝ) (h0 : 0 ≤ t) (h1 : t ≤ 1.571) : |cosR t - Real.cos t| ≤ 5e-7 := by
  have h := abs_le.mp (cosR_sum t h0 h1)
  have g := abs_le.mp (sum_close t h0 h1).1
  rw [abs_le]
  norm_num at h g ⊢
  constructor <;> linarith [h.1, h.2, g.1, g.2]

/-- The sine's polynomial is within 5e-7 of the sine. -/
theorem sinR_close (t : ℝ) (h0 : 0 ≤ t) (h1 : t ≤ 1.571) : |sinR t - Real.sin t| ≤ 5e-7 := by
  have h := abs_le.mp (sinR_sum t h0 h1)
  have g := abs_le.mp (sum_close t h0 h1).2
  rw [abs_le]
  norm_num at h g ⊢
  constructor <;> linarith [h.1, h.2, g.1, g.2]

end Cert.Proof.Spec

end
-- ==== Proof.Bound.lean ====
/- How far the polynomials take a query's result from the exact one: at most a millionth. -/
module

public import proofs.«01_k».proof.Proof.Taylor
public import proofs.«01_k».proof.Proof.RefSort

@[expose] public section

noncomputable section

namespace Cert.Proof.Spec

open Idealize.ShloMosaic
open scoped Classical

/-! ## The literals -/

theorem lit_fifth : lit 0x3E4CCCCD#32 = ((13421773/67108864 : ℝ) : EReal) := by
  simp [Ideal.ofBits, Ideal.ieee, -EReal.coe_mul]; norm_num
theorem lit_pi : lit 0x40490FDB#32 = ((13176795/4194304 : ℝ) : EReal) := by
  simp [Ideal.ofBits, Ideal.ieee, -EReal.coe_mul]; norm_num
theorem lit_two : lit 0x40000000#32 = ((2 : ℝ) : EReal) := by
  simp [Ideal.ofBits, Ideal.ieee, -EReal.coe_mul]; norm_num
theorem lit_tiny : lit 0x358637BD#32 = ((8796093/8796093022208 : ℝ) : EReal) := by
  simp [Ideal.ofBits, Ideal.ieee, -EReal.coe_mul]; norm_num
theorem lit_near : lit 0x3D23D70A#32 = ((5368709/134217728 : ℝ) : EReal) := by
  simp [Ideal.ofBits, Ideal.ieee, -EReal.coe_mul]; norm_num
theorem lit_unit : lit 0x3F800000#32 = ((1 : ℝ) : EReal) := lit_one
theorem lit_c2 : lit 0xBF000000#32 = ((-1/2 : ℝ) : EReal) := by
  simp [Ideal.ofBits, Ideal.ieee, -EReal.coe_mul, -EReal.coe_neg]; norm_num
theorem lit_c4 : lit 0x3D2AAAAB#32 = ((11184811/268435456 : ℝ) : EReal) := by
  simp [Ideal.ofBits, Ideal.ieee, -EReal.coe_mul]; norm_num
theorem lit_c6 : lit 0xBAB60B61#32 = ((-11930465/8589934592 : ℝ) : EReal) := by
  simp [Ideal.ofBits, Ideal.ieee, -EReal.coe_mul, -EReal.coe_neg]; norm_num
theorem lit_c8 : lit 0x37D00D01#32 = ((13634817/549755813888 : ℝ) : EReal) := by
  simp [Ideal.ofBits, Ideal.ieee, -EReal.coe_mul]; norm_num
theorem lit_c10 : lit 0xB493F27E#32 = ((-4847935/17592186044416 : ℝ) : EReal) := by
  simp [Ideal.ofBits, Ideal.ieee, -EReal.coe_mul, -EReal.coe_neg]; norm_num
theorem lit_c12 : lit 0x4DE467E0#32 = ((479001600 : ℝ) : EReal) := by
  simp [Ideal.ofBits, Ideal.ieee, -EReal.coe_mul]; norm_num
theorem lit_s3 : lit 0xBE2AAAAB#32 = ((-11184811/67108864 : ℝ) : EReal) := by
  simp [Ideal.ofBits, Ideal.ieee, -EReal.coe_mul, -EReal.coe_neg]; norm_num
theorem lit_s5 : lit 0x3C088889#32 = ((8947849/1073741824 : ℝ) : EReal) := by
  simp [Ideal.ofBits, Ideal.ieee, -EReal.coe_mul]; norm_num
theorem lit_s7 : lit 0xB9500D01#32 = ((-13634817/68719476736 : ℝ) : EReal) := by
  simp [Ideal.ofBits, Ideal.ieee, -EReal.coe_mul, -EReal.coe_neg]; norm_num
theorem lit_s9 : lit 0x3638EF1D#32 = ((12119837/4398046511104 : ℝ) : EReal) := by
  simp [Ideal.ofBits, Ideal.ieee, -EReal.coe_mul]; norm_num
theorem lit_s11 : lit 0xB2D7322B#32 = ((-14103083/562949953421312 : ℝ) : EReal) := by
  simp [Ideal.ofBits, Ideal.ieee, -EReal.coe_mul, -EReal.coe_neg]; norm_num

/-! ## Real arguments -/

/-- The quotient of reals. -/
theorem div_real (x : ℝ) {y : ℝ} (h : y ≠ 0) : Ideal.div (x : EReal) (y : EReal) = ((x / y : ℝ) : EReal) := by
  rw [Ideal.div_coe h, ← EReal.coe_mul]
  congr 1
  ring

theorem cosPoly_real (t : ℝ) : cosPoly (t : EReal) = (cosR t : EReal) := by
  unfold cosPoly cosR
  rw [lit_unit, lit_c2, lit_c4, lit_c6, lit_c8, lit_c10, lit_c12]
  simp only [← EReal.coe_mul]
  rw [div_real _ (by norm_num)]
  simp only [← EReal.coe_mul, ← EReal.coe_add]

theorem sinPoly_real (t : ℝ) : sinPoly (t : EReal) = (sinR t : EReal) := by
  unfold sinPoly sinR
  rw [lit_unit, lit_s3, lit_s5, lit_s7, lit_s9, lit_s11]
  simp only [← EReal.coe_mul, ← EReal.coe_add]

/-! ## Near points -/

/-- An inner product below a real has real terms. -/
theorem real_of_dot {u : Vec3} {R : ℝ} (h : dot u u < (R : EReal)) (a : Fin 3) : ∃ r : ℝ, u a = (r : EReal) := by
  have hle : u a * u a ≤ dot u u := by
    have n0 := mul_self_nonneg' (u 0)
    have n1 := mul_self_nonneg' (u 1)
    have n2 := mul_self_nonneg' (u 2)
    unfold dot
    fin_cases a
    · exact (le_add_of_nonneg_right n1).trans (le_add_of_nonneg_right n2)
    · exact (le_add_of_nonneg_left n0).trans (le_add_of_nonneg_right n2)
    · exact le_add_of_nonneg_left (add_nonneg n0 n1)
  have hlt := (hle.trans_lt h).trans (EReal.coe_lt_top R)
  generalize u a = w at hlt
  induction w using EReal.rec with
  | bot => exact absurd hlt (by simp)
  | top => exact absurd hlt (by simp)
  | coe r => exact ⟨r, rfl⟩

/-- Where a difference and its second number are real, its first is. -/
theorem real_of_sub {u v : EReal} {r : ℝ} (h : u - v = (r : EReal)) (hv : v - v = 0) : ∃ p q : ℝ, u = p ∧ v = q := by
  induction v using EReal.rec with
  | bot => exact absurd hv (by simp [sub_eq_add_neg])
  | top => exact absurd hv (by simp [sub_eq_add_neg])
  | coe q =>
    induction u using EReal.rec with
    | bot => exact absurd h (by simp [sub_eq_add_neg])
    | top => exact absurd h (by simp [sub_eq_add_neg])
    | coe p => exact ⟨p, q, rfl, rfl⟩

/-- A query with a near point picks near points only. -/
theorem pick_near (x : Fin 8192 → Vec3) (q : Vec3) (h : 0 < cnt x q 8192) (k : ℕ) : near x q (pick x q k) := by
  unfold pick
  split
  · rename_i hk; exact (kth_near x q hk).1
  · exact (kth_near x q h).1

/-- The neighbours of a query with a near point are real and within the radius. -/
theorem rel_real (x : Fin 8192 → Vec3) (q : Vec3) (h : 0 < cnt x q 8192) (k : Fin 32) :
    ∃ v : Fin 3 → ℝ, (∀ a, rel x q k a = (v a : EReal)) ∧ v 0 * v 0 + v 1 * v 1 + v 2 * v 2 ≤ 5368709/134217728 := by
  have hn := pick_near x q h (k + 1)
  have hself := near_sub_self x q _ hn
  obtain ⟨hlt, hd⟩ := hn
  rw [lit_near] at hd
  have hr : ∀ a, ∃ p c : ℝ, q a = p ∧ x ⟨pick x q (k + 1), hlt⟩ a = c := fun a => by
    obtain ⟨r, hr⟩ := real_of_dot hd a
    exact real_of_sub hr (hself a)
  choose p c hp hc using hr
  refine ⟨fun a => c a - p a, fun a => ?_, ?_⟩
  · unfold rel
    rw [hp, hc, ← EReal.coe_sub]
  · unfold dot at hd
    simp only [hp, hc, ← EReal.coe_sub, ← EReal.coe_mul, ← EReal.coe_add] at hd
    have := EReal.coe_lt_coe_iff.mp hd
    nlinarith

/-! ## The bound -/

/-- The larger of a real difference and its negative, bounded. -/
theorem max_le_lit {p q : ℝ} (h : |p - q| ≤ 5e-7) : max ((p : EReal) - q) (-((p : EReal) - q)) ≤ lit 0x358637BD#32 := by
  have h' := abs_le.mp h
  norm_num at h'
  rw [lit_tiny, ← EReal.coe_sub, ← EReal.coe_neg]
  refine max_le (EReal.coe_le_coe_iff.mpr ?_) (EReal.coe_le_coe_iff.mpr ?_)
  · norm_num; linarith [h'.1, h'.2]
  · norm_num; linarith [h'.1, h'.2]

/-- For a real vector within the radius, the quaternion of the polynomials is close to the exact one. -/
theorem quat_close (v : Vec3) (w : Fin 3 → ℝ) (hv : ∀ a, v a = (w a : EReal))
    (hw : w 0 * w 0 + w 1 * w 1 + w 2 * w 2 ≤ 5368709/134217728) (c : Fin 4) :
    max (quat True v c - quat False v c) (-(quat True v c - quat False v c)) ≤ lit 0x358637BD#32 := by
  obtain ⟨d, hd⟩ : ∃ d, w 0 * w 0 + w 1 * w 1 + w 2 * w 2 = d := ⟨_, rfl⟩
  rw [hd] at hw
  have hd0 : 0 ≤ d := by rw [← hd]; nlinarith [mul_self_nonneg (w 0), mul_self_nonneg (w 1), mul_self_nonneg (w 2)]
  have hs0 := Real.sqrt_nonneg d
  have hs1 : Real.sqrt d ≤ 0.2 := by
    rw [Real.sqrt_le_left (by norm_num)]
    norm_num at hw ⊢
    linarith
  have hlen : len v = (Real.sqrt d : EReal) := by
    unfold len dot
    simp only [hv, ← EReal.coe_mul, ← EReal.coe_add, hd]
    rw [Ideal.sqrt_coe, if_neg (not_lt.mpr hd0)]
  obtain ⟨t, ht⟩ : ∃ t : ℝ, Real.sqrt d / (13421773/67108864) * (13176795/4194304) / 2 = t := ⟨_, rfl⟩
  have hhalf : half v = (t : EReal) := by
    unfold half
    rw [hlen, lit_fifth, lit_pi, lit_two, div_real _ (by norm_num), ← EReal.coe_mul, div_real _ (by norm_num), ht]
  have ht0 : 0 ≤ t := by rw [← ht]; positivity
  have ht1 : t ≤ 1.571 := by
    have e : t = Real.sqrt d * (67108864/13421773 * (13176795/4194304) / 2) := by rw [← ht]; ring
    rw [e]
    norm_num at hs1 ⊢
    linarith
  have hunit : ∀ a, ∃ u : ℝ, unit v a = (u : EReal) ∧ |u| ≤ 1 := fun a => by
    have hpos : 0 < Real.sqrt d + 8796093/8796093022208 := by positivity
    refine ⟨w a / (Real.sqrt d + 8796093/8796093022208), ?_, ?_⟩
    · unfold unit len'
      rw [hlen, lit_tiny, hv, ← EReal.coe_add, div_real _ hpos.ne']
    · rw [abs_div, abs_of_pos hpos, div_le_one hpos]
      have : |w a| ≤ Real.sqrt d := by
        apply Real.abs_le_sqrt
        rw [← hd]
        fin_cases a <;> simp only [Fin.zero_eta, Fin.mk_one, Fin.reduceFinMk] <;>
          nlinarith [mul_self_nonneg (w 0), mul_self_nonneg (w 1), mul_self_nonneg (w 2)]
      linarith
  have hT : ∀ z, cosine True z = cosPoly z := fun z => if_pos trivial
  have hF : ∀ z, cosine False z = Ideal.cos z := fun z => if_neg not_false
  have hT' : ∀ z, sine True z = sinPoly z := fun z => if_pos trivial
  have hF' : ∀ z, sine False z = Ideal.sin z := fun z => if_neg not_false
  have hsin : ∀ a, max (sinPoly (half v) * unit v a - Ideal.sin (half v) * unit v a) (-(sinPoly (half v) * unit v a - Ideal.sin (half v) * unit v a))
      ≤ lit 0x358637BD#32 := fun a => by
    obtain ⟨u, hu, hu1⟩ := hunit a
    rw [hhalf, sinPoly_real, Ideal.sin_coe, hu, ← EReal.coe_mul, ← EReal.coe_mul]
    refine max_le_lit ?_
    rw [← sub_mul, abs_mul]
    have := sinR_close t ht0 ht1
    calc _ ≤ |sinR t - Real.sin t| * 1 := mul_le_mul_of_nonneg_left hu1 (abs_nonneg _)
      _ ≤ _ := by rwa [mul_one]
  unfold quat
  rw [hT, hF, hT', hF']
  fin_cases c
  · show max (cosPoly (half v) - Ideal.cos (half v)) (-(cosPoly (half v) - Ideal.cos (half v))) ≤ _
    rw [hhalf, cosPoly_real, Ideal.cos_coe]
    exact max_le_lit (cosR_close t ht0 ht1)
  · exact hsin 0
  · exact hsin 1
  · exact hsin 2

/-- A query's result is the exact one, or within a millionth of it. -/
theorem result_close (x : Fin 8192 → Vec3) (q : Vec3) (w : Fin 32 → EReal) (s : Prop) (hs : s → 0 < cnt x q 8192) (r : Fin 32) (c : Fin 4) :
    result x q w s r c = result x q w False r c
      ∨ max (result x q w s r c - result x q w False r c) (-(result x q w s r c - result x q w False r c)) ≤ lit 0x358637BD#32 := by
  by_cases h : s
  · right
    obtain ⟨v, hv, hb⟩ := rel_real x q (hs h) (Ref.src (angles x q w) r)
    rw [show s = True from eq_true h]
    unfold result
    exact quat_close _ v (fun a => (Ref.ordered_src x q w r a).trans (hv a)) hb c
  · left
    rw [show s = False from eq_false h]

end Cert.Proof.Spec

end
-- ==== Proof.Near.lean ====
/- The kernel's array passes the printed test: it is the exact mathematics, or within a millionth of it. -/
module

public import proofs.«01_k».proof.Proof.ExactOut
public import proofs.«01_k».proof.Proof.Bound
public import proofs.«01_k».proof.Proof.Value

@[expose] public section

set_option maxRecDepth 16384

noncomputable section

namespace Cert.Proof.Exact

open Idealize.ShloMosaic Idealize.ShloMosaic.TcCoe
open Cert.ReferenceIdeal (τ sig main_arg0 main_arg1 main_arg2 S8x8192x3 S8x1024x3 S8x1024x32 S8x32x1024x32)
open scoped Classical

/-- Reference contents that hold three given arguments. -/
def holding (A0 : FVec Ideal S8x8192x3 .f32) (A1 : FVec Ideal S8x1024x3 .f32) (A2 : FVec Ideal S8x1024x32 .f32) : Valuation τ sig (Elt Ideal) :=
  Function.update (Function.update (Function.update default (Proc.devRef .tc main_arg0) A0) (Proc.devRef .tc main_arg1) A1)
    (Proc.devRef .tc main_arg2) A2

theorem holding_arg2 (A0 : FVec Ideal S8x8192x3 .f32) (A1 : FVec Ideal S8x1024x3 .f32) (A2 : FVec Ideal S8x1024x32 .f32) :
    holding A0 A1 A2 (Proc.devRef .tc main_arg2) = A2 := Function.update_self _ _ _

theorem holding_arg1 (A0 : FVec Ideal S8x8192x3 .f32) (A1 : FVec Ideal S8x1024x3 .f32) (A2 : FVec Ideal S8x1024x32 .f32) :
    holding A0 A1 A2 (Proc.devRef .tc main_arg1) = A1 :=
  (Function.update_of_ne (by decide) _ _).trans (Function.update_self _ _ _)

theorem holding_arg0 (A0 : FVec Ideal S8x8192x3 .f32) (A1 : FVec Ideal S8x1024x3 .f32) (A2 : FVec Ideal S8x1024x32 .f32) :
    holding A0 A1 A2 (Proc.devRef .tc main_arg0) = A0 :=
  (Function.update_of_ne (by decide) _ _).trans ((Function.update_of_ne (by decide) _ _).trans (Function.update_self _ _ _))

/-- An array of results passes the test, when a query's polynomials come with a near point. -/
theorem test_result (A0 : FVec Ideal S8x8192x3 .f32) (A1 : FVec Ideal S8x1024x3 .f32) (A2 : FVec Ideal S8x1024x32 .f32)
    (o : FVec Ideal S8x32x1024x32 .f32) (P : Fin 8 → Fin 1024 → Prop)
    (hP : ∀ b s, P b s → 0 < Spec.cnt (fun n a => A0 (ix3 b n a)) (fun a => A1 (ix3 b s a)) 8192)
    (ho : ∀ (b : Fin 8) (ch : Fin 32) (s : Fin 1024) (k : Fin 32), o (ix4 b ch s k) = Spec.result (fun n a => A0 (ix3 b n a)) (fun a => A1 (ix3 b s a))
      (fun k => A2 (ix3 b s k)) (P b s) ⟨(k + ch % 8) % 32, by omega⟩ ⟨ch / 8, by omega⟩)
    (b : Fin 8) (ch : Fin 32) (s : Fin 1024) (k : Fin 32) :
    Cert.Post_near_exact.fn (F := Ideal) A0 A1 A2 o (ix4 b ch s k) = 1#1 := by
  obtain ⟨V, h0, h1, h2⟩ : ∃ V : Valuation τ sig (Elt Ideal), a0 V = A0 ∧ a1 V = A1 ∧ a2 V = A2 :=
    ⟨holding A0 A1 A2, holding_arg0 _ _ _, holding_arg1 _ _ _, holding_arg2 _ _ _⟩
  rw [← h0, ← h1, ← h2]
  refine test_one V _ b ch s k ?_
  have e0 : Ref.pts V b = fun n a => A0 (ix3 b n a) := funext fun n => funext fun a => congrFun h0 (ix3 b n a)
  have e1 : Ref.qry V b s = fun a => A1 (ix3 b s a) := funext fun a => congrFun h1 (ix3 b s a)
  have e2 : Ref.wgt V b s = fun k => A2 (ix3 b s k) := funext fun k => congrFun h2 (ix3 b s k)
  rw [ho, e0, e1, e2]
  exact Spec.result_close _ _ _ _ (hP b s) _ _

variable (m : (ℓ : Loc KernelIdeal.nD KernelIdeal.τ KernelIdeal.sig) → Buf (Elt Ideal) ℓ)

/-- The kernel's array passes the test at every index. -/
theorem arrOut_test (c : Dev KernelIdeal.nD) :
    Cert.Post_near_exact.fn (F := Ideal) (Run.ptsA m c) (Run.qryA m c) (Run.wgtA m c) (Run.arrOut m c) = fun _ => 1#1 := by
  have hr := Run.arrOut_apply m c
  generalize Run.arrOut m c = o at hr ⊢
  funext y
  have h := test_result (Run.ptsA m c) (Run.qryA m c) (Run.wgtA m c) o _ (fun b s h => ?_) (fun b ch s k => hr b ch s k)
  · idx_vars y
    exact h _ _ _ _
  · have h := h ⟨s.val % 128, Nat.mod_lt _ (by norm_num)⟩
    have e : (⟨s.val / 128 * 128 + s.val % 128, by omega⟩ : Fin 1024) = s := Fin.ext (by simp only; omega)
    simp only [e] at h
    exact h

end Cert.Proof.Exact

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frame
public import proofs.«01_k».proof.Proof.Machine.Frame
public import proofs.«01_k».proof.Proof.Same
public import proofs.«01_k».proof.Proof.Near
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel's frame, by its own copy of the run: the loop's record of captured values is a type of its own in each program. -/
theorem frame_kernel : Cert.quiescent_Kernel := fun m ρ _ => Cert.Proof.Machine.frame_any (F := Bits) m ρ

/-- The run over the ideal values. -/
theorem frame_ideal : Cert.quiescent_KernelIdeal := fun m ρ _ => Cert.Proof.Run.frame_any (F := Ideal) m ρ

/-- The reference's frame: its run keeps its arguments and it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Kernel and reference leave the same array, element by element the ball query's result. -/
theorem algebraic : Cert.algebraic_KernelIdeal_ReferenceIdeal := fun m g m' g' _ hm =>
  ⟨Cert.Proof.Run.arrOut m, Cert.Proof.Run.run_value (F := Ideal) m g,
    (θ_run Cert.ReferenceIdeal.defs _ _).mono (fun r h c => ⟨(h c).1.trans (Cert.Proof.same_array m m' c (hm c).1 (hm c).2.1 (hm c).2.2), (h c).2⟩)
      (Cert.ReferenceIdeal.Value.run (F := Ideal) m' g')⟩

/-- The kernel's array is the mathematics with the exact cosine and sine, or within a millionth of it. -/
theorem near_exact : Cert.holds_KernelIdeal_near_exact := fun m g _ =>
  (θ_run Cert.KernelIdeal.defs _ _).mono (fun r h c => ⟨(h c).2.1, (h c).2.2.1, (h c).2.2.2,
      (congrArg (Cert.Post_near_exact.fn (F := Ideal) _ _ _) (h c).1).trans (Cert.Proof.Exact.arrOut_test m c)⟩)
    (Cert.Proof.Run.run_value (F := Ideal) m g)

theorem claim : Cert.Claim := ⟨Cert.Kernel.Gen.facts, Cert.KernelIdeal.Gen.facts, Cert.ReferenceIdeal.Gen.facts, Cert.Proof.Exact.facts,
  frame_kernel, frame_ideal, frame_reference, trivial, algebraic, near_exact⟩

end Cert.Proof

end
